-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 4, 4] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 4, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S2048x2048 : Shape := ⟨2, ![2048, 2048]⟩
abbrev S128x8192 : Shape := ⟨2, ![128, 8192]⟩
abbrev S512x8192 : Shape := ⟨2, ![512, 8192]⟩
abbrev S4x128x512 : Shape := ⟨3, ![4, 128, 512]⟩
abbrev S_ : Shape := ⟨0, ![]⟩
abbrev S4 : Shape := ⟨1, ![4]⟩
abbrev S4x8 : Shape := ⟨2, ![4, 8]⟩
abbrev S4x7 : Shape := ⟨2, ![4, 7]⟩
abbrev S128x512 : Shape := ⟨2, ![128, 512]⟩
abbrev S1x128x512 : Shape := ⟨3, ![1, 128, 512]⟩
abbrev S1 : Shape := ⟨1, ![1]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .local _ .vmem, ⟨0, _⟩ => ⟨S2048x2048, .f32⟩
  | .local _ .vmem, ⟨1, _⟩ => ⟨S128x8192, .f32⟩
  | .local _ .vmem, ⟨2, _⟩ => ⟨S512x8192, .f32⟩
  | .local _ .vmem, ⟨3, _⟩ => ⟨S4x128x512, .bf16⟩
  | .local _ .vmem, ⟨4, _⟩ => ⟨S4x128x512, .bf16⟩
  | .local _ .vmem, ⟨5, _⟩ => ⟨S2048x2048, .bf16⟩
  | _, _ => ⟨S2048x8192, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c128_i32 : BitVec 32 := 128#32
  let v126 : BitVec 32 := Scalar.muli v23 c128_i32
  let c0_i32_65 : BitVec 32 := 0#32
  ![v126.toNat, 0]
def k0_dev1 (d0 : Dev nD) : Nat :=
  let c0_i32_71 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_70 : BitVec 32 := 16#32
  let v131 : BitVec 32 := Scalar.muli v2 c16_i32_70
  let v132 : BitVec 32 := Scalar.addi c0_i32_71 v131
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_72 : BitVec 32 := 4#32
  let v133 : BitVec 32 := Scalar.muli v51 c4_i32_72
  let v134 : BitVec 32 := Scalar.addi v132 v133
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_73 : BitVec 32 := 1#32
  let v135 : BitVec 32 := Scalar.muli v74 c1_i32_73
  let v136 : BitVec 32 := Scalar.addi v134 v135
  v136.toNat
def k0_dev2 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_75 : BitVec 32 := 16#32
  let v137 : BitVec 32 := Scalar.muli v2 c16_i32_75
  let v138 : BitVec 32 := Scalar.addi c0_i32_76 v137
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_77 : BitVec 32 := 4#32
  let v139 : BitVec 32 := Scalar.muli v102 c4_i32_77
  let v140 : BitVec 32 := Scalar.addi v138 v139
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_78 : BitVec 32 := 1#32
  let v141 : BitVec 32 := Scalar.muli v125 c1_i32_78
  let v142 : BitVec 32 := Scalar.addi v140 v141
  v142.toNat
def k0_dev3 (d0 : Dev nD) : Nat :=
  let c0_i32_81 : BitVec 32 := 0#32
  let c1_i32_68 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v130 : BitVec 32 := Scalar.subi c1_i32_68 v2
  let c16_i32_80 : BitVec 32 := 16#32
  let v143 : BitVec 32 := Scalar.muli v130 c16_i32_80
  let v144 : BitVec 32 := Scalar.addi c0_i32_81 v143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_82 : BitVec 32 := 4#32
  let v145 : BitVec 32 := Scalar.muli v5 c4_i32_82
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v147 : BitVec 32 := Scalar.muli v8 c1_i32_83
  let v148 : BitVec 32 := Scalar.addi v146 v147
  v148.toNat
def k0_dev4 (d0 : Dev nD) : Nat :=
  let c0_i32_574 : BitVec 32 := 0#32
  let c1_i32_557 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v870 : BitVec 32 := Scalar.subi c1_i32_557 v2
  let c16_i32_573 : BitVec 32 := 16#32
  let v882 : BitVec 32 := Scalar.muli v870 c16_i32_573
  let v883 : BitVec 32 := Scalar.addi c0_i32_574 v882
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_575 : BitVec 32 := 4#32
  let v884 : BitVec 32 := Scalar.muli v5 c4_i32_575
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_576 : BitVec 32 := 1#32
  let v886 : BitVec 32 := Scalar.muli v8 c1_i32_576
  let v887 : BitVec 32 := Scalar.addi v885 v886
  v887.toNat
def k0_dev5 (d0 : Dev nD) : Nat :=
  let c0_i32_596 : BitVec 32 := 0#32
  let c1_i32_558 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v871 : BitVec 32 := Scalar.subi c1_i32_558 v2
  let c16_i32_595 : BitVec 32 := 16#32
  let v905 : BitVec 32 := Scalar.muli v871 c16_i32_595
  let v906 : BitVec 32 := Scalar.addi c0_i32_596 v905
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_597 : BitVec 32 := 4#32
  let v907 : BitVec 32 := Scalar.muli v5 c4_i32_597
  let v908 : BitVec 32 := Scalar.addi v906 v907
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_598 : BitVec 32 := 1#32
  let v909 : BitVec 32 := Scalar.muli v8 c1_i32_598
  let v910 : BitVec 32 := Scalar.addi v908 v909
  v910.toNat
def k0_off2 (d0 : Dev nD) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c128_i32_621 : BitVec 32 := 128#32
  let v939 : BitVec 32 := Scalar.muli v23 c128_i32_621
  let v940 : Index := Scalar.indexCast v939
  let c0_622 : Index := 0#32
  ![v940.toNat, 0]
def k0_off3 (d0 : Dev nD) (c0_i32_86 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v150 : BitVec 32 := Scalar.addi v23 c0_i32_86
  let c16_i32_87 : BitVec 32 := 16#32
  let c0_i32_88 : BitVec 32 := 0#32
  let v151 : BitVec 1 := Scalar.cmpi .eq c16_i32_87 c0_i32_88
  let c1_i32_89 : BitVec 32 := 1#32
  let v152 : BitVec 32 := Scalar.select v151 c1_i32_89 c16_i32_87
  let v153 : BitVec 32 := Scalar.remsi v150 v152
  let c0_i32_91 : BitVec 32 := 0#32
  let v155 : BitVec 1 := Scalar.cmpi .slt v153 c0_i32_91
  let c0_i32_92 : BitVec 32 := 0#32
  let v156 : BitVec 1 := Scalar.cmpi .slt v152 c0_i32_92
  let v157 : BitVec 1 := Scalar.xori v155 v156
  let c0_i32_90 : BitVec 32 := 0#32
  let v154 : BitVec 1 := Scalar.cmpi .ne v153 c0_i32_90
  let v158 : BitVec 1 := Scalar.andi v157 v154
  let v159 : BitVec 32 := Scalar.addi v153 v152
  let v160 : BitVec 32 := Scalar.select v158 v159 v153
  let c128_i32_93 : BitVec 32 := 128#32
  let v161 : BitVec 32 := Scalar.muli v160 c128_i32_93
  let c0_i32_631 : BitVec 32 := 0#32
  ![v161.toNat, 0]
def k0_off3_at (r : Fin 14) : BitVec 32 :=
  if r.val < 7 then
    if r.val < 3 then
      if r.val < 1 then
        0#32
      else
        if r.val < 2 then
          4294967295#32
        else
          1#32
    else
      if r.val < 5 then
        if r.val < 4 then
          4294967294#32
        else
          2#32
      else
        if r.val < 6 then
          4294967293#32
        else
          3#32
  else
    if r.val < 10 then
      if r.val < 8 then
        4294967292#32
      else
        if r.val < 9 then
          4#32
        else
          4294967291#32
    else
      if r.val < 12 then
        if r.val < 11 then
          5#32
        else
          4294967290#32
      else
        if r.val < 13 then
          6#32
        else
          4294967289#32
def k0_dev6 (d0 : Dev nD) : Nat :=
  let c0_i32_628 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_627 : BitVec 32 := 16#32
  let v944 : BitVec 32 := Scalar.muli v2 c16_i32_627
  let v945 : BitVec 32 := Scalar.addi c0_i32_628 v944
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_629 : BitVec 32 := 4#32
  let v946 : BitVec 32 := Scalar.muli v51 c4_i32_629
  let v947 : BitVec 32 := Scalar.addi v945 v946
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_630 : BitVec 32 := 1#32
  let v948 : BitVec 32 := Scalar.muli v74 c1_i32_630
  let v949 : BitVec 32 := Scalar.addi v947 v948
  v949.toNat
def k0_dev7 (d0 : Dev nD) : Nat :=
  let c0_i32_638 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_637 : BitVec 32 := 16#32
  let v956 : BitVec 32 := Scalar.muli v2 c16_i32_637
  let v957 : BitVec 32 := Scalar.addi c0_i32_638 v956
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_639 : BitVec 32 := 4#32
  let v958 : BitVec 32 := Scalar.muli v102 c4_i32_639
  let v959 : BitVec 32 := Scalar.addi v957 v958
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_640 : BitVec 32 := 1#32
  let v960 : BitVec 32 := Scalar.muli v125 c1_i32_640
  let v961 : BitVec 32 := Scalar.addi v959 v960
  v961.toNat
def k0_dev8 (d0 : Dev nD) : Nat :=
  let c0_i32_660 : BitVec 32 := 0#32
  let c1_i32_559 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v872 : BitVec 32 := Scalar.subi c1_i32_559 v2
  let c16_i32_659 : BitVec 32 := 16#32
  let v980 : BitVec 32 := Scalar.muli v872 c16_i32_659
  let v981 : BitVec 32 := Scalar.addi c0_i32_660 v980
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_661 : BitVec 32 := 4#32
  let v982 : BitVec 32 := Scalar.muli v5 c4_i32_661
  let v983 : BitVec 32 := Scalar.addi v981 v982
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_662 : BitVec 32 := 1#32
  let v984 : BitVec 32 := Scalar.muli v8 c1_i32_662
  let v985 : BitVec 32 := Scalar.addi v983 v984
  v985.toNat
def k0_off4 (d0 : Dev nD) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c128_i32_685 : BitVec 32 := 128#32
  let v1014 : BitVec 32 := Scalar.muli v23 c128_i32_685
  let v1015 : Index := Scalar.indexCast v1014
  let c512 : Index := 512#32
  ![v1015.toNat, 512]
def k0_off5 (d0 : Dev nD) (c0_i32_143 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v246 : BitVec 32 := Scalar.addi v23 c0_i32_143
  let c16_i32_144 : BitVec 32 := 16#32
  let c0_i32_145 : BitVec 32 := 0#32
  let v247 : BitVec 1 := Scalar.cmpi .eq c16_i32_144 c0_i32_145
  let c1_i32_146 : BitVec 32 := 1#32
  let v248 : BitVec 32 := Scalar.select v247 c1_i32_146 c16_i32_144
  let v249 : BitVec 32 := Scalar.remsi v246 v248
  let c0_i32_148 : BitVec 32 := 0#32
  let v251 : BitVec 1 := Scalar.cmpi .slt v249 c0_i32_148
  let c0_i32_149 : BitVec 32 := 0#32
  let v252 : BitVec 1 := Scalar.cmpi .slt v248 c0_i32_149
  let v253 : BitVec 1 := Scalar.xori v251 v252
  let c0_i32_147 : BitVec 32 := 0#32
  let v250 : BitVec 1 := Scalar.cmpi .ne v249 c0_i32_147
  let v254 : BitVec 1 := Scalar.andi v253 v250
  let v255 : BitVec 32 := Scalar.addi v249 v248
  let v256 : BitVec 32 := Scalar.select v254 v255 v249
  let c128_i32_150 : BitVec 32 := 128#32
  let v257 : BitVec 32 := Scalar.muli v256 c128_i32_150
  let c512_i32_694 : BitVec 32 := 512#32
  ![v257.toNat, 512]
def k0_off5_at (r : Fin 14) : BitVec 32 :=
  if r.val < 7 then
    if r.val < 3 then
      if r.val < 1 then
        0#32
      else
        if r.val < 2 then
          4294967295#32
        else
          1#32
    else
      if r.val < 5 then
        if r.val < 4 then
          4294967294#32
        else
          2#32
      else
        if r.val < 6 then
          4294967293#32
        else
          3#32
  else
    if r.val < 10 then
      if r.val < 8 then
        4294967292#32
      else
        if r.val < 9 then
          4#32
        else
          4294967291#32
    else
      if r.val < 12 then
        if r.val < 11 then
          5#32
        else
          4294967290#32
      else
        if r.val < 13 then
          6#32
        else
          4294967289#32
def k0_dev9 (d0 : Dev nD) : Nat :=
  let c0_i32_691 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_690 : BitVec 32 := 16#32
  let v1019 : BitVec 32 := Scalar.muli v2 c16_i32_690
  let v1020 : BitVec 32 := Scalar.addi c0_i32_691 v1019
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_692 : BitVec 32 := 4#32
  let v1021 : BitVec 32 := Scalar.muli v51 c4_i32_692
  let v1022 : BitVec 32 := Scalar.addi v1020 v1021
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_693 : BitVec 32 := 1#32
  let v1023 : BitVec 32 := Scalar.muli v74 c1_i32_693
  let v1024 : BitVec 32 := Scalar.addi v1022 v1023
  v1024.toNat
def k0_dev10 (d0 : Dev nD) : Nat :=
  let c0_i32_701 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_700 : BitVec 32 := 16#32
  let v1031 : BitVec 32 := Scalar.muli v2 c16_i32_700
  let v1032 : BitVec 32 := Scalar.addi c0_i32_701 v1031
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_702 : BitVec 32 := 4#32
  let v1033 : BitVec 32 := Scalar.muli v102 c4_i32_702
  let v1034 : BitVec 32 := Scalar.addi v1032 v1033
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_703 : BitVec 32 := 1#32
  let v1035 : BitVec 32 := Scalar.muli v125 c1_i32_703
  let v1036 : BitVec 32 := Scalar.addi v1034 v1035
  v1036.toNat
def k0_dev11 (d0 : Dev nD) : Nat :=
  let c0_i32_723 : BitVec 32 := 0#32
  let c1_i32_560 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v873 : BitVec 32 := Scalar.subi c1_i32_560 v2
  let c16_i32_722 : BitVec 32 := 16#32
  let v1055 : BitVec 32 := Scalar.muli v873 c16_i32_722
  let v1056 : BitVec 32 := Scalar.addi c0_i32_723 v1055
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_724 : BitVec 32 := 4#32
  let v1057 : BitVec 32 := Scalar.muli v5 c4_i32_724
  let v1058 : BitVec 32 := Scalar.addi v1056 v1057
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_725 : BitVec 32 := 1#32
  let v1059 : BitVec 32 := Scalar.muli v8 c1_i32_725
  let v1060 : BitVec 32 := Scalar.addi v1058 v1059
  v1060.toNat
def k0_off6 (d0 : Dev nD) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c128_i32_748 : BitVec 32 := 128#32
  let v1089 : BitVec 32 := Scalar.muli v23 c128_i32_748
  let v1090 : Index := Scalar.indexCast v1089
  let c1024 : Index := 1024#32
  ![v1090.toNat, 1024]
def k0_off7 (d0 : Dev nD) (c0_i32_207 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v342 : BitVec 32 := Scalar.addi v23 c0_i32_207
  let c16_i32_208 : BitVec 32 := 16#32
  let c0_i32_209 : BitVec 32 := 0#32
  let v343 : BitVec 1 := Scalar.cmpi .eq c16_i32_208 c0_i32_209
  let c1_i32_210 : BitVec 32 := 1#32
  let v344 : BitVec 32 := Scalar.select v343 c1_i32_210 c16_i32_208
  let v345 : BitVec 32 := Scalar.remsi v342 v344
  let c0_i32_212 : BitVec 32 := 0#32
  let v347 : BitVec 1 := Scalar.cmpi .slt v345 c0_i32_212
  let c0_i32_213 : BitVec 32 := 0#32
  let v348 : BitVec 1 := Scalar.cmpi .slt v344 c0_i32_213
  let v349 : BitVec 1 := Scalar.xori v347 v348
  let c0_i32_211 : BitVec 32 := 0#32
  let v346 : BitVec 1 := Scalar.cmpi .ne v345 c0_i32_211
  let v350 : BitVec 1 := Scalar.andi v349 v346
  let v351 : BitVec 32 := Scalar.addi v345 v344
  let v352 : BitVec 32 := Scalar.select v350 v351 v345
  let c128_i32_214 : BitVec 32 := 128#32
  let v353 : BitVec 32 := Scalar.muli v352 c128_i32_214
  let c1024_i32_757 : BitVec 32 := 1024#32
  ![v353.toNat, 1024]
def k0_off7_at (r : Fin 14) : BitVec 32 :=
  if r.val < 7 then
    if r.val < 3 then
      if r.val < 1 then
        0#32
      else
        if r.val < 2 then
          4294967295#32
        else
          1#32
    else
      if r.val < 5 then
        if r.val < 4 then
          4294967294#32
        else
          2#32
      else
        if r.val < 6 then
          4294967293#32
        else
          3#32
  else
    if r.val < 10 then
      if r.val < 8 then
        4294967292#32
      else
        if r.val < 9 then
          4#32
        else
          4294967291#32
    else
      if r.val < 12 then
        if r.val < 11 then
          5#32
        else
          4294967290#32
      else
        if r.val < 13 then
          6#32
        else
          4294967289#32
def k0_dev12 (d0 : Dev nD) : Nat :=
  let c0_i32_754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_753 : BitVec 32 := 16#32
  let v1094 : BitVec 32 := Scalar.muli v2 c16_i32_753
  let v1095 : BitVec 32 := Scalar.addi c0_i32_754 v1094
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_755 : BitVec 32 := 4#32
  let v1096 : BitVec 32 := Scalar.muli v51 c4_i32_755
  let v1097 : BitVec 32 := Scalar.addi v1095 v1096
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_756 : BitVec 32 := 1#32
  let v1098 : BitVec 32 := Scalar.muli v74 c1_i32_756
  let v1099 : BitVec 32 := Scalar.addi v1097 v1098
  v1099.toNat
def k0_dev13 (d0 : Dev nD) : Nat :=
  let c0_i32_764 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_763 : BitVec 32 := 16#32
  let v1106 : BitVec 32 := Scalar.muli v2 c16_i32_763
  let v1107 : BitVec 32 := Scalar.addi c0_i32_764 v1106
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_765 : BitVec 32 := 4#32
  let v1108 : BitVec 32 := Scalar.muli v102 c4_i32_765
  let v1109 : BitVec 32 := Scalar.addi v1107 v1108
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_766 : BitVec 32 := 1#32
  let v1110 : BitVec 32 := Scalar.muli v125 c1_i32_766
  let v1111 : BitVec 32 := Scalar.addi v1109 v1110
  v1111.toNat
def k0_off8 (d0 : Dev nD) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c128_i32_789 : BitVec 32 := 128#32
  let v1141 : BitVec 32 := Scalar.muli v23 c128_i32_789
  let v1142 : Index := Scalar.indexCast v1141
  let c1536 : Index := 1536#32
  ![v1142.toNat, 1536]
def k0_off9 (d0 : Dev nD) (c0_i32_271 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v438 : BitVec 32 := Scalar.addi v23 c0_i32_271
  let c16_i32_272 : BitVec 32 := 16#32
  let c0_i32_273 : BitVec 32 := 0#32
  let v439 : BitVec 1 := Scalar.cmpi .eq c16_i32_272 c0_i32_273
  let c1_i32_274 : BitVec 32 := 1#32
  let v440 : BitVec 32 := Scalar.select v439 c1_i32_274 c16_i32_272
  let v441 : BitVec 32 := Scalar.remsi v438 v440
  let c0_i32_276 : BitVec 32 := 0#32
  let v443 : BitVec 1 := Scalar.cmpi .slt v441 c0_i32_276
  let c0_i32_277 : BitVec 32 := 0#32
  let v444 : BitVec 1 := Scalar.cmpi .slt v440 c0_i32_277
  let v445 : BitVec 1 := Scalar.xori v443 v444
  let c0_i32_275 : BitVec 32 := 0#32
  let v442 : BitVec 1 := Scalar.cmpi .ne v441 c0_i32_275
  let v446 : BitVec 1 := Scalar.andi v445 v442
  let v447 : BitVec 32 := Scalar.addi v441 v440
  let v448 : BitVec 32 := Scalar.select v446 v447 v441
  let c128_i32_278 : BitVec 32 := 128#32
  let v449 : BitVec 32 := Scalar.muli v448 c128_i32_278
  let c1536_i32_798 : BitVec 32 := 1536#32
  ![v449.toNat, 1536]
def k0_off9_at (r : Fin 14) : BitVec 32 :=
  if r.val < 7 then
    if r.val < 3 then
      if r.val < 1 then
        0#32
      else
        if r.val < 2 then
          4294967295#32
        else
          1#32
    else
      if r.val < 5 then
        if r.val < 4 then
          4294967294#32
        else
          2#32
      else
        if r.val < 6 then
          4294967293#32
        else
          3#32
  else
    if r.val < 10 then
      if r.val < 8 then
        4294967292#32
      else
        if r.val < 9 then
          4#32
        else
          4294967291#32
    else
      if r.val < 12 then
        if r.val < 11 then
          5#32
        else
          4294967290#32
      else
        if r.val < 13 then
          6#32
        else
          4294967289#32
def k0_dev14 (d0 : Dev nD) : Nat :=
  let c0_i32_795 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_794 : BitVec 32 := 16#32
  let v1146 : BitVec 32 := Scalar.muli v2 c16_i32_794
  let v1147 : BitVec 32 := Scalar.addi c0_i32_795 v1146
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_796 : BitVec 32 := 4#32
  let v1148 : BitVec 32 := Scalar.muli v51 c4_i32_796
  let v1149 : BitVec 32 := Scalar.addi v1147 v1148
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_797 : BitVec 32 := 1#32
  let v1150 : BitVec 32 := Scalar.muli v74 c1_i32_797
  let v1151 : BitVec 32 := Scalar.addi v1149 v1150
  v1151.toNat
def k0_dev15 (d0 : Dev nD) : Nat :=
  let c0_i32_805 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_804 : BitVec 32 := 16#32
  let v1158 : BitVec 32 := Scalar.muli v2 c16_i32_804
  let v1159 : BitVec 32 := Scalar.addi c0_i32_805 v1158
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_806 : BitVec 32 := 4#32
  let v1160 : BitVec 32 := Scalar.muli v102 c4_i32_806
  let v1161 : BitVec 32 := Scalar.addi v1159 v1160
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_807 : BitVec 32 := 1#32
  let v1162 : BitVec 32 := Scalar.muli v125 c1_i32_807
  let v1163 : BitVec 32 := Scalar.addi v1161 v1162
  v1163.toNat
def k0_dev16 (d0 : Dev nD) : Nat :=
  let c0_i32_827 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_826 : BitVec 32 := 16#32
  let v1183 : BitVec 32 := Scalar.muli v2 c16_i32_826
  let v1184 : BitVec 32 := Scalar.addi c0_i32_827 v1183
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_828 : BitVec 32 := 4#32
  let v1185 : BitVec 32 := Scalar.muli v51 c4_i32_828
  let v1186 : BitVec 32 := Scalar.addi v1184 v1185
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_829 : BitVec 32 := 1#32
  let v1187 : BitVec 32 := Scalar.muli v74 c1_i32_829
  let v1188 : BitVec 32 := Scalar.addi v1186 v1187
  v1188.toNat
def k0_dev17 (d0 : Dev nD) : Nat :=
  let c0_i32_847 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_846 : BitVec 32 := 16#32
  let v1205 : BitVec 32 := Scalar.muli v2 c16_i32_846
  let v1206 : BitVec 32 := Scalar.addi c0_i32_847 v1205
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_848 : BitVec 32 := 4#32
  let v1207 : BitVec 32 := Scalar.muli v102 c4_i32_848
  let v1208 : BitVec 32 := Scalar.addi v1206 v1207
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_849 : BitVec 32 := 1#32
  let v1209 : BitVec 32 := Scalar.muli v125 c1_i32_849
  let v1210 : BitVec 32 := Scalar.addi v1208 v1209
  v1210.toNat
def k0_off10 (d0 : Dev nD) (c0_i32_852 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v1217 : BitVec 32 := Scalar.subi v23 c0_i32_852
  let c1_i32_853 : BitVec 32 := 1#32
  let v1218 : BitVec 32 := Scalar.subi v1217 c1_i32_853
  let c16_i32_854 : BitVec 32 := 16#32
  let c0_i32_855 : BitVec 32 := 0#32
  let v1219 : BitVec 1 := Scalar.cmpi .eq c16_i32_854 c0_i32_855
  let c1_i32_856 : BitVec 32 := 1#32
  let v1220 : BitVec 32 := Scalar.select v1219 c1_i32_856 c16_i32_854
  let v1221 : BitVec 32 := Scalar.remsi v1218 v1220
  let c0_i32_858 : BitVec 32 := 0#32
  let v1223 : BitVec 1 := Scalar.cmpi .slt v1221 c0_i32_858
  let c0_i32_859 : BitVec 32 := 0#32
  let v1224 : BitVec 1 := Scalar.cmpi .slt v1220 c0_i32_859
  let v1225 : BitVec 1 := Scalar.xori v1223 v1224
  let c0_i32_857 : BitVec 32 := 0#32
  let v1222 : BitVec 1 := Scalar.cmpi .ne v1221 c0_i32_857
  let v1226 : BitVec 1 := Scalar.andi v1225 v1222
  let v1227 : BitVec 32 := Scalar.addi v1221 v1220
  let v1228 : BitVec 32 := Scalar.select v1226 v1227 v1221
  let c128_i32_860 : BitVec 32 := 128#32
  let v1229 : BitVec 32 := Scalar.muli v1228 c128_i32_860
  let v1230 : Index := Scalar.indexCast v1229
  let c0_861 : Index := 0#32
  ![v1230.toNat, 0]
def k0_off11 (d0 : Dev nD) (c0_i32_863 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v1235 : BitVec 32 := Scalar.addi v23 c0_i32_863
  let c1_i32_864 : BitVec 32 := 1#32
  let v1236 : BitVec 32 := Scalar.addi v1235 c1_i32_864
  let c16_i32_865 : BitVec 32 := 16#32
  let c0_i32_866 : BitVec 32 := 0#32
  let v1237 : BitVec 1 := Scalar.cmpi .eq c16_i32_865 c0_i32_866
  let c1_i32_867 : BitVec 32 := 1#32
  let v1238 : BitVec 32 := Scalar.select v1237 c1_i32_867 c16_i32_865
  let v1239 : BitVec 32 := Scalar.remsi v1236 v1238
  let c0_i32_869 : BitVec 32 := 0#32
  let v1241 : BitVec 1 := Scalar.cmpi .slt v1239 c0_i32_869
  let c0_i32_870 : BitVec 32 := 0#32
  let v1242 : BitVec 1 := Scalar.cmpi .slt v1238 c0_i32_870
  let v1243 : BitVec 1 := Scalar.xori v1241 v1242
  let c0_i32_868 : BitVec 32 := 0#32
  let v1240 : BitVec 1 := Scalar.cmpi .ne v1239 c0_i32_868
  let v1244 : BitVec 1 := Scalar.andi v1243 v1240
  let v1245 : BitVec 32 := Scalar.addi v1239 v1238
  let v1246 : BitVec 32 := Scalar.select v1244 v1245 v1239
  let c128_i32_871 : BitVec 32 := 128#32
  let v1247 : BitVec 32 := Scalar.muli v1246 c128_i32_871
  let v1248 : Index := Scalar.indexCast v1247
  let c0_872 : Index := 0#32
  ![v1248.toNat, 0]
def k0_dev18 (d0 : Dev nD) : Nat :=
  let c0_i32_889 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_888 : BitVec 32 := 16#32
  let v1263 : BitVec 32 := Scalar.muli v2 c16_i32_888
  let v1264 : BitVec 32 := Scalar.addi c0_i32_889 v1263
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_890 : BitVec 32 := 4#32
  let v1265 : BitVec 32 := Scalar.muli v51 c4_i32_890
  let v1266 : BitVec 32 := Scalar.addi v1264 v1265
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_891 : BitVec 32 := 1#32
  let v1267 : BitVec 32 := Scalar.muli v74 c1_i32_891
  let v1268 : BitVec 32 := Scalar.addi v1266 v1267
  v1268.toNat
def k0_dev19 (d0 : Dev nD) : Nat :=
  let c0_i32_909 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_908 : BitVec 32 := 16#32
  let v1285 : BitVec 32 := Scalar.muli v2 c16_i32_908
  let v1286 : BitVec 32 := Scalar.addi c0_i32_909 v1285
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_910 : BitVec 32 := 4#32
  let v1287 : BitVec 32 := Scalar.muli v102 c4_i32_910
  let v1288 : BitVec 32 := Scalar.addi v1286 v1287
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_911 : BitVec 32 := 1#32
  let v1289 : BitVec 32 := Scalar.muli v125 c1_i32_911
  let v1290 : BitVec 32 := Scalar.addi v1288 v1289
  v1290.toNat
def k0_off12 (d0 : Dev nD) (c0_i32_914 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v1297 : BitVec 32 := Scalar.subi v23 c0_i32_914
  let c1_i32_915 : BitVec 32 := 1#32
  let v1298 : BitVec 32 := Scalar.subi v1297 c1_i32_915
  let c16_i32_916 : BitVec 32 := 16#32
  let c0_i32_917 : BitVec 32 := 0#32
  let v1299 : BitVec 1 := Scalar.cmpi .eq c16_i32_916 c0_i32_917
  let c1_i32_918 : BitVec 32 := 1#32
  let v1300 : BitVec 32 := Scalar.select v1299 c1_i32_918 c16_i32_916
  let v1301 : BitVec 32 := Scalar.remsi v1298 v1300
  let c0_i32_920 : BitVec 32 := 0#32
  let v1303 : BitVec 1 := Scalar.cmpi .slt v1301 c0_i32_920
  let c0_i32_921 : BitVec 32 := 0#32
  let v1304 : BitVec 1 := Scalar.cmpi .slt v1300 c0_i32_921
  let v1305 : BitVec 1 := Scalar.xori v1303 v1304
  let c0_i32_919 : BitVec 32 := 0#32
  let v1302 : BitVec 1 := Scalar.cmpi .ne v1301 c0_i32_919
  let v1306 : BitVec 1 := Scalar.andi v1305 v1302
  let v1307 : BitVec 32 := Scalar.addi v1301 v1300
  let v1308 : BitVec 32 := Scalar.select v1306 v1307 v1301
  let c128_i32_922 : BitVec 32 := 128#32
  let v1309 : BitVec 32 := Scalar.muli v1308 c128_i32_922
  let v1310 : Index := Scalar.indexCast v1309
  let c512_923 : Index := 512#32
  ![v1310.toNat, 512]
def k0_off13 (d0 : Dev nD) (c0_i32_925 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v1315 : BitVec 32 := Scalar.addi v23 c0_i32_925
  let c1_i32_926 : BitVec 32 := 1#32
  let v1316 : BitVec 32 := Scalar.addi v1315 c1_i32_926
  let c16_i32_927 : BitVec 32 := 16#32
  let c0_i32_928 : BitVec 32 := 0#32
  let v1317 : BitVec 1 := Scalar.cmpi .eq c16_i32_927 c0_i32_928
  let c1_i32_929 : BitVec 32 := 1#32
  let v1318 : BitVec 32 := Scalar.select v1317 c1_i32_929 c16_i32_927
  let v1319 : BitVec 32 := Scalar.remsi v1316 v1318
  let c0_i32_931 : BitVec 32 := 0#32
  let v1321 : BitVec 1 := Scalar.cmpi .slt v1319 c0_i32_931
  let c0_i32_932 : BitVec 32 := 0#32
  let v1322 : BitVec 1 := Scalar.cmpi .slt v1318 c0_i32_932
  let v1323 : BitVec 1 := Scalar.xori v1321 v1322
  let c0_i32_930 : BitVec 32 := 0#32
  let v1320 : BitVec 1 := Scalar.cmpi .ne v1319 c0_i32_930
  let v1324 : BitVec 1 := Scalar.andi v1323 v1320
  let v1325 : BitVec 32 := Scalar.addi v1319 v1318
  let v1326 : BitVec 32 := Scalar.select v1324 v1325 v1319
  let c128_i32_933 : BitVec 32 := 128#32
  let v1327 : BitVec 32 := Scalar.muli v1326 c128_i32_933
  let v1328 : Index := Scalar.indexCast v1327
  let c512_934 : Index := 512#32
  ![v1328.toNat, 512]
def k0_dev20 (d0 : Dev nD) : Nat :=
  let c0_i32_951 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_950 : BitVec 32 := 16#32
  let v1343 : BitVec 32 := Scalar.muli v2 c16_i32_950
  let v1344 : BitVec 32 := Scalar.addi c0_i32_951 v1343
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_952 : BitVec 32 := 4#32
  let v1345 : BitVec 32 := Scalar.muli v51 c4_i32_952
  let v1346 : BitVec 32 := Scalar.addi v1344 v1345
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_953 : BitVec 32 := 1#32
  let v1347 : BitVec 32 := Scalar.muli v74 c1_i32_953
  let v1348 : BitVec 32 := Scalar.addi v1346 v1347
  v1348.toNat
def k0_dev21 (d0 : Dev nD) : Nat :=
  let c0_i32_971 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_970 : BitVec 32 := 16#32
  let v1365 : BitVec 32 := Scalar.muli v2 c16_i32_970
  let v1366 : BitVec 32 := Scalar.addi c0_i32_971 v1365
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_972 : BitVec 32 := 4#32
  let v1367 : BitVec 32 := Scalar.muli v102 c4_i32_972
  let v1368 : BitVec 32 := Scalar.addi v1366 v1367
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_973 : BitVec 32 := 1#32
  let v1369 : BitVec 32 := Scalar.muli v125 c1_i32_973
  let v1370 : BitVec 32 := Scalar.addi v1368 v1369
  v1370.toNat
def k0_off14 (d0 : Dev nD) (c0_i32_976 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v1377 : BitVec 32 := Scalar.subi v23 c0_i32_976
  let c1_i32_977 : BitVec 32 := 1#32
  let v1378 : BitVec 32 := Scalar.subi v1377 c1_i32_977
  let c16_i32_978 : BitVec 32 := 16#32
  let c0_i32_979 : BitVec 32 := 0#32
  let v1379 : BitVec 1 := Scalar.cmpi .eq c16_i32_978 c0_i32_979
  let c1_i32_980 : BitVec 32 := 1#32
  let v1380 : BitVec 32 := Scalar.select v1379 c1_i32_980 c16_i32_978
  let v1381 : BitVec 32 := Scalar.remsi v1378 v1380
  let c0_i32_982 : BitVec 32 := 0#32
  let v1383 : BitVec 1 := Scalar.cmpi .slt v1381 c0_i32_982
  let c0_i32_983 : BitVec 32 := 0#32
  let v1384 : BitVec 1 := Scalar.cmpi .slt v1380 c0_i32_983
  let v1385 : BitVec 1 := Scalar.xori v1383 v1384
  let c0_i32_981 : BitVec 32 := 0#32
  let v1382 : BitVec 1 := Scalar.cmpi .ne v1381 c0_i32_981
  let v1386 : BitVec 1 := Scalar.andi v1385 v1382
  let v1387 : BitVec 32 := Scalar.addi v1381 v1380
  let v1388 : BitVec 32 := Scalar.select v1386 v1387 v1381
  let c128_i32_984 : BitVec 32 := 128#32
  let v1389 : BitVec 32 := Scalar.muli v1388 c128_i32_984
  let v1390 : Index := Scalar.indexCast v1389
  let c1024_985 : Index := 1024#32
  ![v1390.toNat, 1024]
def k0_off15 (d0 : Dev nD) (c0_i32_987 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v1395 : BitVec 32 := Scalar.addi v23 c0_i32_987
  let c1_i32_988 : BitVec 32 := 1#32
  let v1396 : BitVec 32 := Scalar.addi v1395 c1_i32_988
  let c16_i32_989 : BitVec 32 := 16#32
  let c0_i32_990 : BitVec 32 := 0#32
  let v1397 : BitVec 1 := Scalar.cmpi .eq c16_i32_989 c0_i32_990
  let c1_i32_991 : BitVec 32 := 1#32
  let v1398 : BitVec 32 := Scalar.select v1397 c1_i32_991 c16_i32_989
  let v1399 : BitVec 32 := Scalar.remsi v1396 v1398
  let c0_i32_993 : BitVec 32 := 0#32
  let v1401 : BitVec 1 := Scalar.cmpi .slt v1399 c0_i32_993
  let c0_i32_994 : BitVec 32 := 0#32
  let v1402 : BitVec 1 := Scalar.cmpi .slt v1398 c0_i32_994
  let v1403 : BitVec 1 := Scalar.xori v1401 v1402
  let c0_i32_992 : BitVec 32 := 0#32
  let v1400 : BitVec 1 := Scalar.cmpi .ne v1399 c0_i32_992
  let v1404 : BitVec 1 := Scalar.andi v1403 v1400
  let v1405 : BitVec 32 := Scalar.addi v1399 v1398
  let v1406 : BitVec 32 := Scalar.select v1404 v1405 v1399
  let c128_i32_995 : BitVec 32 := 128#32
  let v1407 : BitVec 32 := Scalar.muli v1406 c128_i32_995
  let v1408 : Index := Scalar.indexCast v1407
  let c1024_996 : Index := 1024#32
  ![v1408.toNat, 1024]
def k0_dev22 (d0 : Dev nD) : Nat :=
  let c0_i32_1013 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1012 : BitVec 32 := 16#32
  let v1423 : BitVec 32 := Scalar.muli v2 c16_i32_1012
  let v1424 : BitVec 32 := Scalar.addi c0_i32_1013 v1423
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1014 : BitVec 32 := 4#32
  let v1425 : BitVec 32 := Scalar.muli v51 c4_i32_1014
  let v1426 : BitVec 32 := Scalar.addi v1424 v1425
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1015 : BitVec 32 := 1#32
  let v1427 : BitVec 32 := Scalar.muli v74 c1_i32_1015
  let v1428 : BitVec 32 := Scalar.addi v1426 v1427
  v1428.toNat
def k0_dev23 (d0 : Dev nD) : Nat :=
  let c0_i32_1033 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1032 : BitVec 32 := 16#32
  let v1445 : BitVec 32 := Scalar.muli v2 c16_i32_1032
  let v1446 : BitVec 32 := Scalar.addi c0_i32_1033 v1445
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1034 : BitVec 32 := 4#32
  let v1447 : BitVec 32 := Scalar.muli v102 c4_i32_1034
  let v1448 : BitVec 32 := Scalar.addi v1446 v1447
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1035 : BitVec 32 := 1#32
  let v1449 : BitVec 32 := Scalar.muli v125 c1_i32_1035
  let v1450 : BitVec 32 := Scalar.addi v1448 v1449
  v1450.toNat
def k0_off16 (d0 : Dev nD) (c0_i32_1038 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v1457 : BitVec 32 := Scalar.subi v23 c0_i32_1038
  let c1_i32_1039 : BitVec 32 := 1#32
  let v1458 : BitVec 32 := Scalar.subi v1457 c1_i32_1039
  let c16_i32_1040 : BitVec 32 := 16#32
  let c0_i32_1041 : BitVec 32 := 0#32
  let v1459 : BitVec 1 := Scalar.cmpi .eq c16_i32_1040 c0_i32_1041
  let c1_i32_1042 : BitVec 32 := 1#32
  let v1460 : BitVec 32 := Scalar.select v1459 c1_i32_1042 c16_i32_1040
  let v1461 : BitVec 32 := Scalar.remsi v1458 v1460
  let c0_i32_1044 : BitVec 32 := 0#32
  let v1463 : BitVec 1 := Scalar.cmpi .slt v1461 c0_i32_1044
  let c0_i32_1045 : BitVec 32 := 0#32
  let v1464 : BitVec 1 := Scalar.cmpi .slt v1460 c0_i32_1045
  let v1465 : BitVec 1 := Scalar.xori v1463 v1464
  let c0_i32_1043 : BitVec 32 := 0#32
  let v1462 : BitVec 1 := Scalar.cmpi .ne v1461 c0_i32_1043
  let v1466 : BitVec 1 := Scalar.andi v1465 v1462
  let v1467 : BitVec 32 := Scalar.addi v1461 v1460
  let v1468 : BitVec 32 := Scalar.select v1466 v1467 v1461
  let c128_i32_1046 : BitVec 32 := 128#32
  let v1469 : BitVec 32 := Scalar.muli v1468 c128_i32_1046
  let v1470 : Index := Scalar.indexCast v1469
  let c1536_1047 : Index := 1536#32
  ![v1470.toNat, 1536]
def k0_off17 (d0 : Dev nD) (c0_i32_1049 : BitVec 32) : Fin 2 → Nat :=
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let v1475 : BitVec 32 := Scalar.addi v23 c0_i32_1049
  let c1_i32_1050 : BitVec 32 := 1#32
  let v1476 : BitVec 32 := Scalar.addi v1475 c1_i32_1050
  let c16_i32_1051 : BitVec 32 := 16#32
  let c0_i32_1052 : BitVec 32 := 0#32
  let v1477 : BitVec 1 := Scalar.cmpi .eq c16_i32_1051 c0_i32_1052
  let c1_i32_1053 : BitVec 32 := 1#32
  let v1478 : BitVec 32 := Scalar.select v1477 c1_i32_1053 c16_i32_1051
  let v1479 : BitVec 32 := Scalar.remsi v1476 v1478
  let c0_i32_1055 : BitVec 32 := 0#32
  let v1481 : BitVec 1 := Scalar.cmpi .slt v1479 c0_i32_1055
  let c0_i32_1056 : BitVec 32 := 0#32
  let v1482 : BitVec 1 := Scalar.cmpi .slt v1478 c0_i32_1056
  let v1483 : BitVec 1 := Scalar.xori v1481 v1482
  let c0_i32_1054 : BitVec 32 := 0#32
  let v1480 : BitVec 1 := Scalar.cmpi .ne v1479 c0_i32_1054
  let v1484 : BitVec 1 := Scalar.andi v1483 v1480
  let v1485 : BitVec 32 := Scalar.addi v1479 v1478
  let v1486 : BitVec 32 := Scalar.select v1484 v1485 v1479
  let c128_i32_1057 : BitVec 32 := 128#32
  let v1487 : BitVec 32 := Scalar.muli v1486 c128_i32_1057
  let v1488 : Index := Scalar.indexCast v1487
  let c1536_1058 : Index := 1536#32
  ![v1488.toNat, 1536]
def k0_dev24 (d0 : Dev nD) : Nat :=
  let c0_i32_1075 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1074 : BitVec 32 := 16#32
  let v1503 : BitVec 32 := Scalar.muli v2 c16_i32_1074
  let v1504 : BitVec 32 := Scalar.addi c0_i32_1075 v1503
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1076 : BitVec 32 := 4#32
  let v1505 : BitVec 32 := Scalar.muli v51 c4_i32_1076
  let v1506 : BitVec 32 := Scalar.addi v1504 v1505
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1077 : BitVec 32 := 1#32
  let v1507 : BitVec 32 := Scalar.muli v74 c1_i32_1077
  let v1508 : BitVec 32 := Scalar.addi v1506 v1507
  v1508.toNat
def k0_dev25 (d0 : Dev nD) : Nat :=
  let c0_i32_1095 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1094 : BitVec 32 := 16#32
  let v1525 : BitVec 32 := Scalar.muli v2 c16_i32_1094
  let v1526 : BitVec 32 := Scalar.addi c0_i32_1095 v1525
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1096 : BitVec 32 := 4#32
  let v1527 : BitVec 32 := Scalar.muli v102 c4_i32_1096
  let v1528 : BitVec 32 := Scalar.addi v1526 v1527
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1097 : BitVec 32 := 1#32
  let v1529 : BitVec 32 := Scalar.muli v125 c1_i32_1097
  let v1530 : BitVec 32 := Scalar.addi v1528 v1529
  v1530.toNat
def k0_dev26 (d0 : Dev nD) : Nat :=
  let c0_i32_1137 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1136 : BitVec 32 := 16#32
  let v1583 : BitVec 32 := Scalar.muli v2 c16_i32_1136
  let v1584 : BitVec 32 := Scalar.addi c0_i32_1137 v1583
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1138 : BitVec 32 := 4#32
  let v1585 : BitVec 32 := Scalar.muli v51 c4_i32_1138
  let v1586 : BitVec 32 := Scalar.addi v1584 v1585
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1139 : BitVec 32 := 1#32
  let v1587 : BitVec 32 := Scalar.muli v74 c1_i32_1139
  let v1588 : BitVec 32 := Scalar.addi v1586 v1587
  v1588.toNat
def k0_dev27 (d0 : Dev nD) : Nat :=
  let c0_i32_1157 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1156 : BitVec 32 := 16#32
  let v1605 : BitVec 32 := Scalar.muli v2 c16_i32_1156
  let v1606 : BitVec 32 := Scalar.addi c0_i32_1157 v1605
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1158 : BitVec 32 := 4#32
  let v1607 : BitVec 32 := Scalar.muli v102 c4_i32_1158
  let v1608 : BitVec 32 := Scalar.addi v1606 v1607
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1159 : BitVec 32 := 1#32
  let v1609 : BitVec 32 := Scalar.muli v125 c1_i32_1159
  let v1610 : BitVec 32 := Scalar.addi v1608 v1609
  v1610.toNat
def k0_dev28 (d0 : Dev nD) : Nat :=
  let c0_i32_1199 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1198 : BitVec 32 := 16#32
  let v1663 : BitVec 32 := Scalar.muli v2 c16_i32_1198
  let v1664 : BitVec 32 := Scalar.addi c0_i32_1199 v1663
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1200 : BitVec 32 := 4#32
  let v1665 : BitVec 32 := Scalar.muli v51 c4_i32_1200
  let v1666 : BitVec 32 := Scalar.addi v1664 v1665
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1201 : BitVec 32 := 1#32
  let v1667 : BitVec 32 := Scalar.muli v74 c1_i32_1201
  let v1668 : BitVec 32 := Scalar.addi v1666 v1667
  v1668.toNat
def k0_dev29 (d0 : Dev nD) : Nat :=
  let c0_i32_1219 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1218 : BitVec 32 := 16#32
  let v1685 : BitVec 32 := Scalar.muli v2 c16_i32_1218
  let v1686 : BitVec 32 := Scalar.addi c0_i32_1219 v1685
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1220 : BitVec 32 := 4#32
  let v1687 : BitVec 32 := Scalar.muli v102 c4_i32_1220
  let v1688 : BitVec 32 := Scalar.addi v1686 v1687
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1221 : BitVec 32 := 1#32
  let v1689 : BitVec 32 := Scalar.muli v125 c1_i32_1221
  let v1690 : BitVec 32 := Scalar.addi v1688 v1689
  v1690.toNat
def k0_dev30 (d0 : Dev nD) : Nat :=
  let c0_i32_1261 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1260 : BitVec 32 := 16#32
  let v1743 : BitVec 32 := Scalar.muli v2 c16_i32_1260
  let v1744 : BitVec 32 := Scalar.addi c0_i32_1261 v1743
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1262 : BitVec 32 := 4#32
  let v1745 : BitVec 32 := Scalar.muli v51 c4_i32_1262
  let v1746 : BitVec 32 := Scalar.addi v1744 v1745
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1263 : BitVec 32 := 1#32
  let v1747 : BitVec 32 := Scalar.muli v74 c1_i32_1263
  let v1748 : BitVec 32 := Scalar.addi v1746 v1747
  v1748.toNat
def k0_dev31 (d0 : Dev nD) : Nat :=
  let c0_i32_1281 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1280 : BitVec 32 := 16#32
  let v1765 : BitVec 32 := Scalar.muli v2 c16_i32_1280
  let v1766 : BitVec 32 := Scalar.addi c0_i32_1281 v1765
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1282 : BitVec 32 := 4#32
  let v1767 : BitVec 32 := Scalar.muli v102 c4_i32_1282
  let v1768 : BitVec 32 := Scalar.addi v1766 v1767
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1283 : BitVec 32 := 1#32
  let v1769 : BitVec 32 := Scalar.muli v125 c1_i32_1283
  let v1770 : BitVec 32 := Scalar.addi v1768 v1769
  v1770.toNat
def k0_dev32 (d0 : Dev nD) : Nat :=
  let c0_i32_1323 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1322 : BitVec 32 := 16#32
  let v1823 : BitVec 32 := Scalar.muli v2 c16_i32_1322
  let v1824 : BitVec 32 := Scalar.addi c0_i32_1323 v1823
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1324 : BitVec 32 := 4#32
  let v1825 : BitVec 32 := Scalar.muli v51 c4_i32_1324
  let v1826 : BitVec 32 := Scalar.addi v1824 v1825
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1325 : BitVec 32 := 1#32
  let v1827 : BitVec 32 := Scalar.muli v74 c1_i32_1325
  let v1828 : BitVec 32 := Scalar.addi v1826 v1827
  v1828.toNat
def k0_dev33 (d0 : Dev nD) : Nat :=
  let c0_i32_1343 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1342 : BitVec 32 := 16#32
  let v1845 : BitVec 32 := Scalar.muli v2 c16_i32_1342
  let v1846 : BitVec 32 := Scalar.addi c0_i32_1343 v1845
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1344 : BitVec 32 := 4#32
  let v1847 : BitVec 32 := Scalar.muli v102 c4_i32_1344
  let v1848 : BitVec 32 := Scalar.addi v1846 v1847
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1345 : BitVec 32 := 1#32
  let v1849 : BitVec 32 := Scalar.muli v125 c1_i32_1345
  let v1850 : BitVec 32 := Scalar.addi v1848 v1849
  v1850.toNat
def k0_dev34 (d0 : Dev nD) : Nat :=
  let c0_i32_1385 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1384 : BitVec 32 := 16#32
  let v1903 : BitVec 32 := Scalar.muli v2 c16_i32_1384
  let v1904 : BitVec 32 := Scalar.addi c0_i32_1385 v1903
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1386 : BitVec 32 := 4#32
  let v1905 : BitVec 32 := Scalar.muli v51 c4_i32_1386
  let v1906 : BitVec 32 := Scalar.addi v1904 v1905
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1387 : BitVec 32 := 1#32
  let v1907 : BitVec 32 := Scalar.muli v74 c1_i32_1387
  let v1908 : BitVec 32 := Scalar.addi v1906 v1907
  v1908.toNat
def k0_dev35 (d0 : Dev nD) : Nat :=
  let c0_i32_1405 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1404 : BitVec 32 := 16#32
  let v1925 : BitVec 32 := Scalar.muli v2 c16_i32_1404
  let v1926 : BitVec 32 := Scalar.addi c0_i32_1405 v1925
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1406 : BitVec 32 := 4#32
  let v1927 : BitVec 32 := Scalar.muli v102 c4_i32_1406
  let v1928 : BitVec 32 := Scalar.addi v1926 v1927
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1407 : BitVec 32 := 1#32
  let v1929 : BitVec 32 := Scalar.muli v125 c1_i32_1407
  let v1930 : BitVec 32 := Scalar.addi v1928 v1929
  v1930.toNat
def k0_dev36 (d0 : Dev nD) : Nat :=
  let c0_i32_1447 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1446 : BitVec 32 := 16#32
  let v1983 : BitVec 32 := Scalar.muli v2 c16_i32_1446
  let v1984 : BitVec 32 := Scalar.addi c0_i32_1447 v1983
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1448 : BitVec 32 := 4#32
  let v1985 : BitVec 32 := Scalar.muli v51 c4_i32_1448
  let v1986 : BitVec 32 := Scalar.addi v1984 v1985
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1449 : BitVec 32 := 1#32
  let v1987 : BitVec 32 := Scalar.muli v74 c1_i32_1449
  let v1988 : BitVec 32 := Scalar.addi v1986 v1987
  v1988.toNat
def k0_dev37 (d0 : Dev nD) : Nat :=
  let c0_i32_1467 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1466 : BitVec 32 := 16#32
  let v2005 : BitVec 32 := Scalar.muli v2 c16_i32_1466
  let v2006 : BitVec 32 := Scalar.addi c0_i32_1467 v2005
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1468 : BitVec 32 := 4#32
  let v2007 : BitVec 32 := Scalar.muli v102 c4_i32_1468
  let v2008 : BitVec 32 := Scalar.addi v2006 v2007
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1469 : BitVec 32 := 1#32
  let v2009 : BitVec 32 := Scalar.muli v125 c1_i32_1469
  let v2010 : BitVec 32 := Scalar.addi v2008 v2009
  v2010.toNat
def k0_dev38 (d0 : Dev nD) : Nat :=
  let c0_i32_1509 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1508 : BitVec 32 := 16#32
  let v2063 : BitVec 32 := Scalar.muli v2 c16_i32_1508
  let v2064 : BitVec 32 := Scalar.addi c0_i32_1509 v2063
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1510 : BitVec 32 := 4#32
  let v2065 : BitVec 32 := Scalar.muli v51 c4_i32_1510
  let v2066 : BitVec 32 := Scalar.addi v2064 v2065
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1511 : BitVec 32 := 1#32
  let v2067 : BitVec 32 := Scalar.muli v74 c1_i32_1511
  let v2068 : BitVec 32 := Scalar.addi v2066 v2067
  v2068.toNat
def k0_dev39 (d0 : Dev nD) : Nat :=
  let c0_i32_1529 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1528 : BitVec 32 := 16#32
  let v2085 : BitVec 32 := Scalar.muli v2 c16_i32_1528
  let v2086 : BitVec 32 := Scalar.addi c0_i32_1529 v2085
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1530 : BitVec 32 := 4#32
  let v2087 : BitVec 32 := Scalar.muli v102 c4_i32_1530
  let v2088 : BitVec 32 := Scalar.addi v2086 v2087
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1531 : BitVec 32 := 1#32
  let v2089 : BitVec 32 := Scalar.muli v125 c1_i32_1531
  let v2090 : BitVec 32 := Scalar.addi v2088 v2089
  v2090.toNat
def k0_dev40 (d0 : Dev nD) : Nat :=
  let c0_i32_1571 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1570 : BitVec 32 := 16#32
  let v2143 : BitVec 32 := Scalar.muli v2 c16_i32_1570
  let v2144 : BitVec 32 := Scalar.addi c0_i32_1571 v2143
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1572 : BitVec 32 := 4#32
  let v2145 : BitVec 32 := Scalar.muli v51 c4_i32_1572
  let v2146 : BitVec 32 := Scalar.addi v2144 v2145
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1573 : BitVec 32 := 1#32
  let v2147 : BitVec 32 := Scalar.muli v74 c1_i32_1573
  let v2148 : BitVec 32 := Scalar.addi v2146 v2147
  v2148.toNat
def k0_dev41 (d0 : Dev nD) : Nat :=
  let c0_i32_1591 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1590 : BitVec 32 := 16#32
  let v2165 : BitVec 32 := Scalar.muli v2 c16_i32_1590
  let v2166 : BitVec 32 := Scalar.addi c0_i32_1591 v2165
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1592 : BitVec 32 := 4#32
  let v2167 : BitVec 32 := Scalar.muli v102 c4_i32_1592
  let v2168 : BitVec 32 := Scalar.addi v2166 v2167
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1593 : BitVec 32 := 1#32
  let v2169 : BitVec 32 := Scalar.muli v125 c1_i32_1593
  let v2170 : BitVec 32 := Scalar.addi v2168 v2169
  v2170.toNat
def k0_dev42 (d0 : Dev nD) : Nat :=
  let c0_i32_1633 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1632 : BitVec 32 := 16#32
  let v2223 : BitVec 32 := Scalar.muli v2 c16_i32_1632
  let v2224 : BitVec 32 := Scalar.addi c0_i32_1633 v2223
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1634 : BitVec 32 := 4#32
  let v2225 : BitVec 32 := Scalar.muli v51 c4_i32_1634
  let v2226 : BitVec 32 := Scalar.addi v2224 v2225
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1635 : BitVec 32 := 1#32
  let v2227 : BitVec 32 := Scalar.muli v74 c1_i32_1635
  let v2228 : BitVec 32 := Scalar.addi v2226 v2227
  v2228.toNat
def k0_dev43 (d0 : Dev nD) : Nat :=
  let c0_i32_1653 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1652 : BitVec 32 := 16#32
  let v2245 : BitVec 32 := Scalar.muli v2 c16_i32_1652
  let v2246 : BitVec 32 := Scalar.addi c0_i32_1653 v2245
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1654 : BitVec 32 := 4#32
  let v2247 : BitVec 32 := Scalar.muli v102 c4_i32_1654
  let v2248 : BitVec 32 := Scalar.addi v2246 v2247
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1655 : BitVec 32 := 1#32
  let v2249 : BitVec 32 := Scalar.muli v125 c1_i32_1655
  let v2250 : BitVec 32 := Scalar.addi v2248 v2249
  v2250.toNat
def k0_dev44 (d0 : Dev nD) : Nat :=
  let c0_i32_1695 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1694 : BitVec 32 := 16#32
  let v2303 : BitVec 32 := Scalar.muli v2 c16_i32_1694
  let v2304 : BitVec 32 := Scalar.addi c0_i32_1695 v2303
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1696 : BitVec 32 := 4#32
  let v2305 : BitVec 32 := Scalar.muli v51 c4_i32_1696
  let v2306 : BitVec 32 := Scalar.addi v2304 v2305
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1697 : BitVec 32 := 1#32
  let v2307 : BitVec 32 := Scalar.muli v74 c1_i32_1697
  let v2308 : BitVec 32 := Scalar.addi v2306 v2307
  v2308.toNat
def k0_dev45 (d0 : Dev nD) : Nat :=
  let c0_i32_1715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1714 : BitVec 32 := 16#32
  let v2325 : BitVec 32 := Scalar.muli v2 c16_i32_1714
  let v2326 : BitVec 32 := Scalar.addi c0_i32_1715 v2325
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1716 : BitVec 32 := 4#32
  let v2327 : BitVec 32 := Scalar.muli v102 c4_i32_1716
  let v2328 : BitVec 32 := Scalar.addi v2326 v2327
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1717 : BitVec 32 := 1#32
  let v2329 : BitVec 32 := Scalar.muli v125 c1_i32_1717
  let v2330 : BitVec 32 := Scalar.addi v2328 v2329
  v2330.toNat
def k0_dev46 (d0 : Dev nD) : Nat :=
  let c0_i32_1757 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1756 : BitVec 32 := 16#32
  let v2383 : BitVec 32 := Scalar.muli v2 c16_i32_1756
  let v2384 : BitVec 32 := Scalar.addi c0_i32_1757 v2383
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1758 : BitVec 32 := 4#32
  let v2385 : BitVec 32 := Scalar.muli v51 c4_i32_1758
  let v2386 : BitVec 32 := Scalar.addi v2384 v2385
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1759 : BitVec 32 := 1#32
  let v2387 : BitVec 32 := Scalar.muli v74 c1_i32_1759
  let v2388 : BitVec 32 := Scalar.addi v2386 v2387
  v2388.toNat
def k0_dev47 (d0 : Dev nD) : Nat :=
  let c0_i32_1777 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1776 : BitVec 32 := 16#32
  let v2405 : BitVec 32 := Scalar.muli v2 c16_i32_1776
  let v2406 : BitVec 32 := Scalar.addi c0_i32_1777 v2405
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1778 : BitVec 32 := 4#32
  let v2407 : BitVec 32 := Scalar.muli v102 c4_i32_1778
  let v2408 : BitVec 32 := Scalar.addi v2406 v2407
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1779 : BitVec 32 := 1#32
  let v2409 : BitVec 32 := Scalar.muli v125 c1_i32_1779
  let v2410 : BitVec 32 := Scalar.addi v2408 v2409
  v2410.toNat
def k0_dev48 (d0 : Dev nD) : Nat :=
  let c0_i32_1819 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1818 : BitVec 32 := 16#32
  let v2463 : BitVec 32 := Scalar.muli v2 c16_i32_1818
  let v2464 : BitVec 32 := Scalar.addi c0_i32_1819 v2463
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1820 : BitVec 32 := 4#32
  let v2465 : BitVec 32 := Scalar.muli v51 c4_i32_1820
  let v2466 : BitVec 32 := Scalar.addi v2464 v2465
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1821 : BitVec 32 := 1#32
  let v2467 : BitVec 32 := Scalar.muli v74 c1_i32_1821
  let v2468 : BitVec 32 := Scalar.addi v2466 v2467
  v2468.toNat
def k0_dev49 (d0 : Dev nD) : Nat :=
  let c0_i32_1839 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1838 : BitVec 32 := 16#32
  let v2485 : BitVec 32 := Scalar.muli v2 c16_i32_1838
  let v2486 : BitVec 32 := Scalar.addi c0_i32_1839 v2485
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1840 : BitVec 32 := 4#32
  let v2487 : BitVec 32 := Scalar.muli v102 c4_i32_1840
  let v2488 : BitVec 32 := Scalar.addi v2486 v2487
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1841 : BitVec 32 := 1#32
  let v2489 : BitVec 32 := Scalar.muli v125 c1_i32_1841
  let v2490 : BitVec 32 := Scalar.addi v2488 v2489
  v2490.toNat
def k0_dev50 (d0 : Dev nD) : Nat :=
  let c0_i32_1881 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1880 : BitVec 32 := 16#32
  let v2543 : BitVec 32 := Scalar.muli v2 c16_i32_1880
  let v2544 : BitVec 32 := Scalar.addi c0_i32_1881 v2543
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1882 : BitVec 32 := 4#32
  let v2545 : BitVec 32 := Scalar.muli v51 c4_i32_1882
  let v2546 : BitVec 32 := Scalar.addi v2544 v2545
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1883 : BitVec 32 := 1#32
  let v2547 : BitVec 32 := Scalar.muli v74 c1_i32_1883
  let v2548 : BitVec 32 := Scalar.addi v2546 v2547
  v2548.toNat
def k0_dev51 (d0 : Dev nD) : Nat :=
  let c0_i32_1901 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1900 : BitVec 32 := 16#32
  let v2565 : BitVec 32 := Scalar.muli v2 c16_i32_1900
  let v2566 : BitVec 32 := Scalar.addi c0_i32_1901 v2565
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1902 : BitVec 32 := 4#32
  let v2567 : BitVec 32 := Scalar.muli v102 c4_i32_1902
  let v2568 : BitVec 32 := Scalar.addi v2566 v2567
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1903 : BitVec 32 := 1#32
  let v2569 : BitVec 32 := Scalar.muli v125 c1_i32_1903
  let v2570 : BitVec 32 := Scalar.addi v2568 v2569
  v2570.toNat
def k0_dev52 (d0 : Dev nD) : Nat :=
  let c0_i32_1943 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1942 : BitVec 32 := 16#32
  let v2623 : BitVec 32 := Scalar.muli v2 c16_i32_1942
  let v2624 : BitVec 32 := Scalar.addi c0_i32_1943 v2623
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_1944 : BitVec 32 := 4#32
  let v2625 : BitVec 32 := Scalar.muli v51 c4_i32_1944
  let v2626 : BitVec 32 := Scalar.addi v2624 v2625
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_1945 : BitVec 32 := 1#32
  let v2627 : BitVec 32 := Scalar.muli v74 c1_i32_1945
  let v2628 : BitVec 32 := Scalar.addi v2626 v2627
  v2628.toNat
def k0_dev53 (d0 : Dev nD) : Nat :=
  let c0_i32_1963 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1962 : BitVec 32 := 16#32
  let v2645 : BitVec 32 := Scalar.muli v2 c16_i32_1962
  let v2646 : BitVec 32 := Scalar.addi c0_i32_1963 v2645
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_1964 : BitVec 32 := 4#32
  let v2647 : BitVec 32 := Scalar.muli v102 c4_i32_1964
  let v2648 : BitVec 32 := Scalar.addi v2646 v2647
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_1965 : BitVec 32 := 1#32
  let v2649 : BitVec 32 := Scalar.muli v125 c1_i32_1965
  let v2650 : BitVec 32 := Scalar.addi v2648 v2649
  v2650.toNat
def k0_dev54 (d0 : Dev nD) : Nat :=
  let c0_i32_2005 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2004 : BitVec 32 := 16#32
  let v2703 : BitVec 32 := Scalar.muli v2 c16_i32_2004
  let v2704 : BitVec 32 := Scalar.addi c0_i32_2005 v2703
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_2006 : BitVec 32 := 4#32
  let v2705 : BitVec 32 := Scalar.muli v51 c4_i32_2006
  let v2706 : BitVec 32 := Scalar.addi v2704 v2705
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_2007 : BitVec 32 := 1#32
  let v2707 : BitVec 32 := Scalar.muli v74 c1_i32_2007
  let v2708 : BitVec 32 := Scalar.addi v2706 v2707
  v2708.toNat
def k0_dev55 (d0 : Dev nD) : Nat :=
  let c0_i32_2025 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2024 : BitVec 32 := 16#32
  let v2725 : BitVec 32 := Scalar.muli v2 c16_i32_2024
  let v2726 : BitVec 32 := Scalar.addi c0_i32_2025 v2725
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_2026 : BitVec 32 := 4#32
  let v2727 : BitVec 32 := Scalar.muli v102 c4_i32_2026
  let v2728 : BitVec 32 := Scalar.addi v2726 v2727
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_2027 : BitVec 32 := 1#32
  let v2729 : BitVec 32 := Scalar.muli v125 c1_i32_2027
  let v2730 : BitVec 32 := Scalar.addi v2728 v2729
  v2730.toNat
def k0_dev56 (d0 : Dev nD) : Nat :=
  let c0_i32_2067 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2066 : BitVec 32 := 16#32
  let v2783 : BitVec 32 := Scalar.muli v2 c16_i32_2066
  let v2784 : BitVec 32 := Scalar.addi c0_i32_2067 v2783
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_2068 : BitVec 32 := 4#32
  let v2785 : BitVec 32 := Scalar.muli v51 c4_i32_2068
  let v2786 : BitVec 32 := Scalar.addi v2784 v2785
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_2069 : BitVec 32 := 1#32
  let v2787 : BitVec 32 := Scalar.muli v74 c1_i32_2069
  let v2788 : BitVec 32 := Scalar.addi v2786 v2787
  v2788.toNat
def k0_dev57 (d0 : Dev nD) : Nat :=
  let c0_i32_2087 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2086 : BitVec 32 := 16#32
  let v2805 : BitVec 32 := Scalar.muli v2 c16_i32_2086
  let v2806 : BitVec 32 := Scalar.addi c0_i32_2087 v2805
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_2088 : BitVec 32 := 4#32
  let v2807 : BitVec 32 := Scalar.muli v102 c4_i32_2088
  let v2808 : BitVec 32 := Scalar.addi v2806 v2807
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_2089 : BitVec 32 := 1#32
  let v2809 : BitVec 32 := Scalar.muli v125 c1_i32_2089
  let v2810 : BitVec 32 := Scalar.addi v2808 v2809
  v2810.toNat
def k0_dev58 (d0 : Dev nD) : Nat :=
  let c0_i32_2129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2128 : BitVec 32 := 16#32
  let v2863 : BitVec 32 := Scalar.muli v2 c16_i32_2128
  let v2864 : BitVec 32 := Scalar.addi c0_i32_2129 v2863
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_2130 : BitVec 32 := 4#32
  let v2865 : BitVec 32 := Scalar.muli v51 c4_i32_2130
  let v2866 : BitVec 32 := Scalar.addi v2864 v2865
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_2131 : BitVec 32 := 1#32
  let v2867 : BitVec 32 := Scalar.muli v74 c1_i32_2131
  let v2868 : BitVec 32 := Scalar.addi v2866 v2867
  v2868.toNat
def k0_dev59 (d0 : Dev nD) : Nat :=
  let c0_i32_2149 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2148 : BitVec 32 := 16#32
  let v2885 : BitVec 32 := Scalar.muli v2 c16_i32_2148
  let v2886 : BitVec 32 := Scalar.addi c0_i32_2149 v2885
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_2150 : BitVec 32 := 4#32
  let v2887 : BitVec 32 := Scalar.muli v102 c4_i32_2150
  let v2888 : BitVec 32 := Scalar.addi v2886 v2887
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_2151 : BitVec 32 := 1#32
  let v2889 : BitVec 32 := Scalar.muli v125 c1_i32_2151
  let v2890 : BitVec 32 := Scalar.addi v2888 v2889
  v2890.toNat
def k0_dev60 (d0 : Dev nD) : Nat :=
  let c0_i32_2191 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2190 : BitVec 32 := 16#32
  let v2943 : BitVec 32 := Scalar.muli v2 c16_i32_2190
  let v2944 : BitVec 32 := Scalar.addi c0_i32_2191 v2943
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_2192 : BitVec 32 := 4#32
  let v2945 : BitVec 32 := Scalar.muli v51 c4_i32_2192
  let v2946 : BitVec 32 := Scalar.addi v2944 v2945
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_2193 : BitVec 32 := 1#32
  let v2947 : BitVec 32 := Scalar.muli v74 c1_i32_2193
  let v2948 : BitVec 32 := Scalar.addi v2946 v2947
  v2948.toNat
def k0_dev61 (d0 : Dev nD) : Nat :=
  let c0_i32_2211 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2210 : BitVec 32 := 16#32
  let v2965 : BitVec 32 := Scalar.muli v2 c16_i32_2210
  let v2966 : BitVec 32 := Scalar.addi c0_i32_2211 v2965
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_2212 : BitVec 32 := 4#32
  let v2967 : BitVec 32 := Scalar.muli v102 c4_i32_2212
  let v2968 : BitVec 32 := Scalar.addi v2966 v2967
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_2213 : BitVec 32 := 1#32
  let v2969 : BitVec 32 := Scalar.muli v125 c1_i32_2213
  let v2970 : BitVec 32 := Scalar.addi v2968 v2969
  v2970.toNat
def k0_dev62 (d0 : Dev nD) : Nat :=
  let c0_i32_2253 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2252 : BitVec 32 := 16#32
  let v3023 : BitVec 32 := Scalar.muli v2 c16_i32_2252
  let v3024 : BitVec 32 := Scalar.addi c0_i32_2253 v3023
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_2254 : BitVec 32 := 4#32
  let v3025 : BitVec 32 := Scalar.muli v51 c4_i32_2254
  let v3026 : BitVec 32 := Scalar.addi v3024 v3025
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_2255 : BitVec 32 := 1#32
  let v3027 : BitVec 32 := Scalar.muli v74 c1_i32_2255
  let v3028 : BitVec 32 := Scalar.addi v3026 v3027
  v3028.toNat
def k0_dev63 (d0 : Dev nD) : Nat :=
  let c0_i32_2273 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2272 : BitVec 32 := 16#32
  let v3045 : BitVec 32 := Scalar.muli v2 c16_i32_2272
  let v3046 : BitVec 32 := Scalar.addi c0_i32_2273 v3045
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_37 : BitVec 32 := 1#32
  let v75 : BitVec 32 := Scalar.subi v23 c1_i32_37
  let c16_i32_38 : BitVec 32 := 16#32
  let c0_i32_39 : BitVec 32 := 0#32
  let v76 : BitVec 1 := Scalar.cmpi .eq c16_i32_38 c0_i32_39
  let c1_i32_40 : BitVec 32 := 1#32
  let v77 : BitVec 32 := Scalar.select v76 c1_i32_40 c16_i32_38
  let v78 : BitVec 32 := Scalar.remsi v75 v77
  let c0_i32_42 : BitVec 32 := 0#32
  let v80 : BitVec 1 := Scalar.cmpi .slt v78 c0_i32_42
  let c0_i32_43 : BitVec 32 := 0#32
  let v81 : BitVec 1 := Scalar.cmpi .slt v77 c0_i32_43
  let v82 : BitVec 1 := Scalar.xori v80 v81
  let c0_i32_41 : BitVec 32 := 0#32
  let v79 : BitVec 1 := Scalar.cmpi .ne v78 c0_i32_41
  let v83 : BitVec 1 := Scalar.andi v82 v79
  let v84 : BitVec 32 := Scalar.addi v78 v77
  let v85 : BitVec 32 := Scalar.select v83 v84 v78
  let c0_i32_45 : BitVec 32 := 0#32
  let v87 : BitVec 1 := Scalar.cmpi .sgt v85 c0_i32_45
  let v88 : BitVec 32 := Scalar.extui v87
  let c0_i32_46 : BitVec 32 := 0#32
  let v89 : BitVec 1 := Scalar.cmpi .slt v85 c0_i32_46
  let v90 : BitVec 32 := Scalar.extui v89
  let v91 : BitVec 32 := Scalar.subi v88 v90
  let c4_i32_44 : BitVec 32 := 4#32
  let c0_i32_47 : BitVec 32 := 0#32
  let v92 : BitVec 1 := Scalar.cmpi .sgt c4_i32_44 c0_i32_47
  let v93 : BitVec 32 := Scalar.extui v92
  let c0_i32_48 : BitVec 32 := 0#32
  let v94 : BitVec 1 := Scalar.cmpi .slt c4_i32_44 c0_i32_48
  let v95 : BitVec 32 := Scalar.extui v94
  let v96 : BitVec 32 := Scalar.subi v93 v95
  let v97 : BitVec 1 := Scalar.cmpi .ne v91 v96
  let v98 : BitVec 32 := Scalar.remsi v85 c4_i32_44
  let c0_i32_49 : BitVec 32 := 0#32
  let v99 : BitVec 1 := Scalar.cmpi .ne v98 c0_i32_49
  let v100 : BitVec 1 := Scalar.andi v97 v99
  let v86 : BitVec 32 := Scalar.divsi v85 c4_i32_44
  let c1_i32_50 : BitVec 32 := 1#32
  let v101 : BitVec 32 := Scalar.subi v86 c1_i32_50
  let v102 : BitVec 32 := Scalar.select v100 v101 v86
  let c4_i32_2274 : BitVec 32 := 4#32
  let v3047 : BitVec 32 := Scalar.muli v102 c4_i32_2274
  let v3048 : BitVec 32 := Scalar.addi v3046 v3047
  let c2_i32_57 : BitVec 32 := 2#32
  let c0_i32_58 : BitVec 32 := 0#32
  let v113 : BitVec 1 := Scalar.cmpi .eq c2_i32_57 c0_i32_58
  let c1_i32_59 : BitVec 32 := 1#32
  let v114 : BitVec 32 := Scalar.select v113 c1_i32_59 c2_i32_57
  let v115 : BitVec 32 := Scalar.remsi v102 v114
  let c0_i32_61 : BitVec 32 := 0#32
  let v117 : BitVec 1 := Scalar.cmpi .slt v115 c0_i32_61
  let c0_i32_62 : BitVec 32 := 0#32
  let v118 : BitVec 1 := Scalar.cmpi .slt v114 c0_i32_62
  let v119 : BitVec 1 := Scalar.xori v117 v118
  let c0_i32_60 : BitVec 32 := 0#32
  let v116 : BitVec 1 := Scalar.cmpi .ne v115 c0_i32_60
  let v120 : BitVec 1 := Scalar.andi v119 v116
  let v121 : BitVec 32 := Scalar.addi v115 v114
  let v122 : BitVec 32 := Scalar.select v120 v121 v115
  let c0_i32_63 : BitVec 32 := 0#32
  let v123 : BitVec 1 := Scalar.cmpi .eq v122 c0_i32_63
  let c4_i32_51 : BitVec 32 := 4#32
  let c0_i32_52 : BitVec 32 := 0#32
  let v103 : BitVec 1 := Scalar.cmpi .eq c4_i32_51 c0_i32_52
  let c1_i32_53 : BitVec 32 := 1#32
  let v104 : BitVec 32 := Scalar.select v103 c1_i32_53 c4_i32_51
  let v105 : BitVec 32 := Scalar.remsi v85 v104
  let c0_i32_55 : BitVec 32 := 0#32
  let v107 : BitVec 1 := Scalar.cmpi .slt v105 c0_i32_55
  let c0_i32_56 : BitVec 32 := 0#32
  let v108 : BitVec 1 := Scalar.cmpi .slt v104 c0_i32_56
  let v109 : BitVec 1 := Scalar.xori v107 v108
  let c0_i32_54 : BitVec 32 := 0#32
  let v106 : BitVec 1 := Scalar.cmpi .ne v105 c0_i32_54
  let v110 : BitVec 1 := Scalar.andi v109 v106
  let v111 : BitVec 32 := Scalar.addi v105 v104
  let v112 : BitVec 32 := Scalar.select v110 v111 v105
  let c3_i32_64 : BitVec 32 := 3#32
  let v124 : BitVec 32 := Scalar.subi c3_i32_64 v112
  let v125 : BitVec 32 := Scalar.select v123 v112 v124
  let c1_i32_2275 : BitVec 32 := 1#32
  let v3049 : BitVec 32 := Scalar.muli v125 c1_i32_2275
  let v3050 : BitVec 32 := Scalar.addi v3048 v3049
  v3050.toNat
def k0_dev64 (d0 : Dev nD) : Nat :=
  let c0_i32_2314 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2313 : BitVec 32 := 16#32
  let v3103 : BitVec 32 := Scalar.muli v2 c16_i32_2313
  let v3104 : BitVec 32 := Scalar.addi c0_i32_2314 v3103
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_2315 : BitVec 32 := 4#32
  let v3105 : BitVec 32 := Scalar.muli v51 c4_i32_2315
  let v3106 : BitVec 32 := Scalar.addi v3104 v3105
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_2316 : BitVec 32 := 1#32
  let v3107 : BitVec 32 := Scalar.muli v74 c1_i32_2316
  let v3108 : BitVec 32 := Scalar.addi v3106 v3107
  v3108.toNat
def k0_dev65 (d0 : Dev nD) : Nat :=
  let c0_i32_2366 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2365 : BitVec 32 := 16#32
  let v3171 : BitVec 32 := Scalar.muli v2 c16_i32_2365
  let v3172 : BitVec 32 := Scalar.addi c0_i32_2366 v3171
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_2367 : BitVec 32 := 4#32
  let v3173 : BitVec 32 := Scalar.muli v51 c4_i32_2367
  let v3174 : BitVec 32 := Scalar.addi v3172 v3173
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_2368 : BitVec 32 := 1#32
  let v3175 : BitVec 32 := Scalar.muli v74 c1_i32_2368
  let v3176 : BitVec 32 := Scalar.addi v3174 v3175
  v3176.toNat
def k0_dev66 (d0 : Dev nD) : Nat :=
  let c0_i32_2418 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2417 : BitVec 32 := 16#32
  let v3239 : BitVec 32 := Scalar.muli v2 c16_i32_2417
  let v3240 : BitVec 32 := Scalar.addi c0_i32_2418 v3239
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_2419 : BitVec 32 := 4#32
  let v3241 : BitVec 32 := Scalar.muli v51 c4_i32_2419
  let v3242 : BitVec 32 := Scalar.addi v3240 v3241
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_2420 : BitVec 32 := 1#32
  let v3243 : BitVec 32 := Scalar.muli v74 c1_i32_2420
  let v3244 : BitVec 32 := Scalar.addi v3242 v3243
  v3244.toNat
def k0_dev67 (d0 : Dev nD) : Nat :=
  let c0_i32_2470 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2469 : BitVec 32 := 16#32
  let v3307 : BitVec 32 := Scalar.muli v2 c16_i32_2469
  let v3308 : BitVec 32 := Scalar.addi c0_i32_2470 v3307
  let c4_i32_2 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.muli c4_i32_2 v5
  let c2_i32_3 : BitVec 32 := 2#32
  let c0_i32 : BitVec 32 := 0#32
  let v10 : BitVec 1 := Scalar.cmpi .eq c2_i32_3 c0_i32
  let c1_i32_4 : BitVec 32 := 1#32
  let v11 : BitVec 32 := Scalar.select v10 c1_i32_4 c2_i32_3
  let v12 : BitVec 32 := Scalar.remsi v5 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v21 : BitVec 32 := Scalar.subi c3_i32 v8
  let v22 : BitVec 32 := Scalar.select v20 v8 v21
  let v23 : BitVec 32 := Scalar.addi v9 v22
  let c1_i32_9 : BitVec 32 := 1#32
  let v24 : BitVec 32 := Scalar.addi v23 c1_i32_9
  let c16_i32_10 : BitVec 32 := 16#32
  let c0_i32_11 : BitVec 32 := 0#32
  let v25 : BitVec 1 := Scalar.cmpi .eq c16_i32_10 c0_i32_11
  let c1_i32_12 : BitVec 32 := 1#32
  let v26 : BitVec 32 := Scalar.select v25 c1_i32_12 c16_i32_10
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let v36 : BitVec 1 := Scalar.cmpi .sgt v34 c0_i32_17
  let v37 : BitVec 32 := Scalar.extui v36
  let c0_i32_18 : BitVec 32 := 0#32
  let v38 : BitVec 1 := Scalar.cmpi .slt v34 c0_i32_18
  let v39 : BitVec 32 := Scalar.extui v38
  let v40 : BitVec 32 := Scalar.subi v37 v39
  let c4_i32_16 : BitVec 32 := 4#32
  let c0_i32_19 : BitVec 32 := 0#32
  let v41 : BitVec 1 := Scalar.cmpi .sgt c4_i32_16 c0_i32_19
  let v42 : BitVec 32 := Scalar.extui v41
  let c0_i32_20 : BitVec 32 := 0#32
  let v43 : BitVec 1 := Scalar.cmpi .slt c4_i32_16 c0_i32_20
  let v44 : BitVec 32 := Scalar.extui v43
  let v45 : BitVec 32 := Scalar.subi v42 v44
  let v46 : BitVec 1 := Scalar.cmpi .ne v40 v45
  let v47 : BitVec 32 := Scalar.remsi v34 c4_i32_16
  let c0_i32_21 : BitVec 32 := 0#32
  let v48 : BitVec 1 := Scalar.cmpi .ne v47 c0_i32_21
  let v49 : BitVec 1 := Scalar.andi v46 v48
  let v35 : BitVec 32 := Scalar.divsi v34 c4_i32_16
  let c1_i32_22 : BitVec 32 := 1#32
  let v50 : BitVec 32 := Scalar.subi v35 c1_i32_22
  let v51 : BitVec 32 := Scalar.select v49 v50 v35
  let c4_i32_2471 : BitVec 32 := 4#32
  let v3309 : BitVec 32 := Scalar.muli v51 c4_i32_2471
  let v3310 : BitVec 32 := Scalar.addi v3308 v3309
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v51 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let c0_i32_35 : BitVec 32 := 0#32
  let v72 : BitVec 1 := Scalar.cmpi .eq v71 c0_i32_35
  let c4_i32_23 : BitVec 32 := 4#32
  let c0_i32_24 : BitVec 32 := 0#32
  let v52 : BitVec 1 := Scalar.cmpi .eq c4_i32_23 c0_i32_24
  let c1_i32_25 : BitVec 32 := 1#32
  let v53 : BitVec 32 := Scalar.select v52 c1_i32_25 c4_i32_23
  let v54 : BitVec 32 := Scalar.remsi v34 v53
  let c0_i32_27 : BitVec 32 := 0#32
  let v56 : BitVec 1 := Scalar.cmpi .slt v54 c0_i32_27
  let c0_i32_28 : BitVec 32 := 0#32
  let v57 : BitVec 1 := Scalar.cmpi .slt v53 c0_i32_28
  let v58 : BitVec 1 := Scalar.xori v56 v57
  let c0_i32_26 : BitVec 32 := 0#32
  let v55 : BitVec 1 := Scalar.cmpi .ne v54 c0_i32_26
  let v59 : BitVec 1 := Scalar.andi v58 v55
  let v60 : BitVec 32 := Scalar.addi v54 v53
  let v61 : BitVec 32 := Scalar.select v59 v60 v54
  let c3_i32_36 : BitVec 32 := 3#32
  let v73 : BitVec 32 := Scalar.subi c3_i32_36 v61
  let v74 : BitVec 32 := Scalar.select v72 v61 v73
  let c1_i32_2472 : BitVec 32 := 1#32
  let v3311 : BitVec 32 := Scalar.muli v74 c1_i32_2472
  let v3312 : BitVec 32 := Scalar.addi v3310 v3311
  v3312.toNat
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/- The kernel's body as a structured program: a prologue, four column chunks, the ring's hops and a drain, over
   lists of (column chunk, hop). `cc0_body_eq` says that it is the printed body. -/
module

public import proofs.«01_k».proof.Proof.Gen.KernelIdeal.Skeleton
public import proofs.«01_k».proof.Proof.Gen.KernelIdeal.Points
public import proofs.«01_k».proof.Proof.Gen.KernelIdeal.Launch

@[expose] public section

set_option maxRecDepth 16384

noncomputable section

namespace Cert.KernelIdeal.Ring

open Idealize.ShloMosaic Idealize.ShloMosaic.TcCoe Idealize.SL.Sem
open Cert.KernelIdeal Cert.KernelIdeal.Gen

variable {F : FTy → Type} [FloatOps F]

/-- A hop of a ring: `inl h` is hop `h` of the ring that sends to the right, `inr h` hop `h` of the other. -/
abbrev Hop := Fin 8 ⊕ Fin 7

/-- The kernel's programs. -/
abbrev PG (F : FTy → Type) [FloatOps F] : Type → Type 1 := Prog (TpuEff nD τ sig (Elt F) Λ₀ .tc)

/-! ## The buffers -/

abbrev dyA : Memref sig .tc .hbm S2048x8192 .f32 := Memref.whole main_arg0
abbrev wA : Memref sig .tc .hbm S2048x8192 .f32 := Memref.whole main_arg1
abbrev oB : Memref sig .tc .vmem S2048x2048 .f32 := Memref.whole cc0_stg0_0
abbrev dB : Memref sig .tc .vmem S128x8192 .f32 := Memref.whole cc0_scratch0
abbrev wB : Memref sig .tc .vmem S512x8192 .f32 := Memref.whole cc0_scratch1
abbrev pB : Memref sig .tc .vmem S4x128x512 .bf16 := Memref.whole cc0_scratch2
abbrev xB : Memref sig .tc .vmem S4x128x512 .bf16 := Memref.whole cc0_scratch3
abbrev gB : Memref sig .tc .vmem S2048x2048 .bf16 := Memref.whole cc0_scratch4

/-! ## The neighbours -/

/-- The right neighbour on the ring of sixteen. -/
def rn (d : Dev nD) : Dev nD := ⟨k0_dev1 d, k0_dev1_lt d⟩
/-- The left neighbour. -/
def ln (d : Dev nD) : Dev nD := ⟨k0_dev2 d, k0_dev2_lt d⟩
/-- The device with the other half of the contraction. -/
def xp (d : Dev nD) : Dev nD := ⟨k0_dev3 d, k0_dev3_lt d⟩

/-- Where a hop's copy goes. -/
def tgt (d : Dev nD) : Hop → Dev nD
  | .inl _ => rn d
  | .inr _ => ln d

/-! ## The offsets, by column chunk -/

/-- The block of this device's own rows. -/
def offP (c : Fin 4) (d : Dev nD) : Fin 2 → Nat :=
  match c with
  | 0 => k0_off2 d
  | 1 => k0_off4 d
  | 2 => k0_off6 d
  | 3 => k0_off8 d

/-- The word a hop adds to this device's ring position. -/
def swd : Hop → BitVec 32
  | .inl h => ![0#32, 4294967295#32, 4294967294#32, 4294967293#32, 4294967292#32, 4294967291#32, 4294967290#32, 4294967289#32] h
  | .inr h => ![0#32, 1#32, 2#32, 3#32, 4#32, 5#32, 6#32] h

/-- The block a hop sends. -/
def offS (c : Fin 4) (d : Dev nD) (j : Hop) : Fin 2 → Nat :=
  match c with
  | 0 => k0_off3 d (swd j)
  | 1 => k0_off5 d (swd j)
  | 2 => k0_off7 d (swd j)
  | 3 => k0_off9 d (swd j)

/-- The block a hop receives. -/
def offR (c : Fin 4) (d : Dev nD) (j : Hop) : Fin 2 → Nat :=
  match j with
  | .inl h => match c with
    | 0 => k0_off10 d (BitVec.ofNat 32 h.val)
    | 1 => k0_off12 d (BitVec.ofNat 32 h.val)
    | 2 => k0_off14 d (BitVec.ofNat 32 h.val)
    | 3 => k0_off16 d (BitVec.ofNat 32 h.val)
  | .inr h => match c with
    | 0 => k0_off11 d (BitVec.ofNat 32 h.val)
    | 1 => k0_off13 d (BitVec.ofNat 32 h.val)
    | 2 => k0_off15 d (BitVec.ofNat 32 h.val)
    | 3 => k0_off17 d (BitVec.ofNat 32 h.val)

/-- A device's place on the ring of sixteen: the four rows of the mesh walked in alternate directions. -/
def pos (d : Dev nD) : Fin 16 :=
  ![0, 1, 2, 3, 7, 6, 5, 4, 8, 9, 10, 11, 15, 14, 13, 12, 0, 1, 2, 3, 7, 6, 5, 4, 8, 9, 10, 11, 15, 14, 13, 12] d

/-- The row block a hop sends. -/
def sb (d : Dev nD) : Hop → Fin 16
  | .inl h => pos d - ⟨h.val, by omega⟩
  | .inr h => pos d + ⟨h.val, by omega⟩

/-- The row block a hop receives. -/
def rb (d : Dev nD) : Hop → Fin 16
  | .inl h => pos d - ⟨h.val + 1, by omega⟩
  | .inr h => pos d + ⟨h.val + 1, by omega⟩

/-- The corner of row block `o` of column chunk `c`. -/
def cor (c : Fin 4) (o : Fin 16) : Fin 2 → Nat := ![128 * o.val, 512 * c.val]

theorem offP_eq : ∀ (c : Fin 4) (d : Dev nD), offP c d = cor c (pos d) := by decide +kernel
theorem offS_eq : ∀ (c : Fin 4) (d : Dev nD) (j : Hop), offS c d j = cor c (sb d j) := by decide +kernel
theorem offR_eq : ∀ (c : Fin 4) (d : Dev nD) (j : Hop), offR c d j = cor c (rb d j) := by decide +kernel
theorem off1_eq : ∀ d : Dev nD, k0_off1 d = ![128 * (pos d).val, 0] := by decide +kernel

theorem cor_inb : ∀ (c : Fin 4) (o : Fin 16) (a : Fin 2), cor c o a + S128x512.size a ≤ S2048x2048.size a := by decide +kernel
theorem cor_words : ∀ (c : Fin 4) (o : Fin 16), (Rect.unit (s := S2048x2048) (cor c o) S128x512.size (cor_inb c o)).WholeWords (EltTy.packing .bf16) := by decide +kernel
theorem cor_packed : ∀ (c : Fin 4) (o : Fin 16), (Rect.unit (s := S2048x2048) (cor c o) S128x512.size (cor_inb c o)).PackedRows (EltTy.packing .bf16) := by decide +kernel

/-! ## Facts of the slices -/

theorem offP_inb (c : Fin 4) (d : Dev nD) : ∀ a, offP c d a + S128x512.size a ≤ S2048x2048.size a := by
  rw [offP_eq]; exact cor_inb _ _
theorem offS_inb (c : Fin 4) (d : Dev nD) (j : Hop) : ∀ a, offS c d j a + S128x512.size a ≤ S2048x2048.size a := by
  rw [offS_eq]; exact cor_inb _ _
theorem offR_inb (c : Fin 4) (d : Dev nD) (j : Hop) : ∀ a, offR c d j a + S128x512.size a ≤ S2048x2048.size a := by
  rw [offR_eq]; exact cor_inb _ _

/-- A row block of a column chunk, at any spelling of its corner. -/
abbrev blk (off : Fin 2 → Nat) (h : ∀ a, off a + S128x512.size a ≤ S2048x2048.size a) : Rect S2048x2048 :=
  Rect.unit (s := S2048x2048) off S128x512.size h

theorem blk_words (off : Fin 2 → Nat) (h) (c : Fin 4) (o : Fin 16) (e : off = cor c o) : (blk off h).WholeWords (EltTy.packing .bf16) := by
  subst e; exact cor_words c o
theorem blk_packed (off : Fin 2 → Nat) (h) (c : Fin 4) (o : Fin 16) (e : off = cor c o) : (blk off h).PackedRows (EltTy.packing .bf16) := by
  subst e; exact cor_packed c o

theorem inb3 : ∀ (c : Fin 4) (a : Fin 3), (![c.val, 0, 0] : Fin 3 → Nat) a + S1x128x512.size a ≤ S4x128x512.size a := by decide
abbrev pRect (c : Fin 4) : Rect S4x128x512 := Rect.unit (s := S4x128x512) ![c.val, 0, 0] S1x128x512.size (inb3 c)
theorem pRect_words : ∀ c : Fin 4, (pRect c).WholeWords (EltTy.packing .bf16) := by decide
theorem pRect_packed : ∀ c : Fin 4, (pRect c).PackedRows (EltTy.packing .bf16) := by decide

theorem inbW : ∀ (c : Fin 4) (a : Fin 2), (![512 * c.val, 0] : Fin 2 → Nat) a + S512x8192.size a ≤ S2048x8192.size a := by decide
theorem inbS4 : ∀ (c : Fin 4) (a : Fin 1), (![c.val] : Fin 1 → Nat) a + S1.size a ≤ S4.size a := by decide
theorem inbS8 : ∀ (c : Fin 4) (h : Fin 8) (a : Fin 2), (![c.val, h.val] : Fin 2 → Nat) a + S1x1.size a ≤ S4x8.size a := by decide
theorem inbS7 : ∀ (c : Fin 4) (h : Fin 7) (a : Fin 2), (![c.val, h.val] : Fin 2 → Nat) a + S1x1.size a ≤ S4x7.size a := by decide

/-! ## The views -/

/-- This device's rows of `dy`. -/
abbrev dyS (d : Dev nD) : Memref sig .tc .hbm S128x8192 .f32 :=
  dyA.slice (Rect.unit (s := S2048x8192) (k0_off1 d) S128x8192.size (k0_off1_inb d)) (fun _ => rfl)
/-- Column chunk `c` of the result: rows of `W`. -/
abbrev wS (c : Fin 4) : Memref sig .tc .hbm S512x8192 .f32 :=
  wA.slice (Rect.unit (s := S2048x8192) ![512 * c.val, 0] S512x8192.size (inbW c)) (fun _ => rfl)
abbrev pS (c : Fin 4) : Memref sig .tc .vmem S128x512 .bf16 :=
  (pB.slice (pRect c) (fun _ => rfl)).squeeze S128x512 squeezes_S1x128x512_S128x512
abbrev xS (c : Fin 4) : Memref sig .tc .vmem S128x512 .bf16 :=
  (xB.slice (pRect c) (fun _ => rfl)).squeeze S128x512 squeezes_S1x128x512_S128x512
abbrev gS (c : Fin 4) (d : Dev nD) (j : Hop) : Memref sig .tc .vmem S128x512 .bf16 :=
  gB.slice (blk (offS c d j) (offS_inb c d j)) (fun _ => rfl)

/-! ## The semaphores -/

abbrev barS : Sem sig := (SemArray.scalar (sig.barrier 0 rfl) : Sems sig S_).sem
abbrev dyD : DmaSem sig := cc0_scratch5.sem
abbrev wD : DmaSem sig := cc0_scratch6.sem
abbrev xsD (c : Fin 4) : DmaSem sig := ((cc0_scratch7.slice (Rect.unit (s := S4) ![c.val] S1.size (inbS4 c))).squeeze S_ squeezes_S1_S_).sem
abbrev xrD (c : Fin 4) : DmaSem sig := ((cc0_scratch8.slice (Rect.unit (s := S4) ![c.val] S1.size (inbS4 c))).squeeze S_ squeezes_S1_S_).sem
/-- The semaphore a hop's copy completes on at its source. -/
def snD (c : Fin 4) : Hop → DmaSem sig
  | .inl h => ((cc0_scratch9.slice (Rect.unit (s := S4x8) ![c.val, h.val] S1x1.size (inbS8 c h))).squeeze S_ squeezes_S1x1_S_).sem
  | .inr h => ((cc0_scratch11.slice (Rect.unit (s := S4x7) ![c.val, h.val] S1x1.size (inbS7 c h))).squeeze S_ squeezes_S1x1_S_).sem
/-- The semaphore a hop's copy completes on at its destination. -/
def rcD (c : Fin 4) : Hop → DmaSem sig
  | .inl h => ((cc0_scratch10.slice (Rect.unit (s := S4x8) ![c.val, h.val] S1x1.size (inbS8 c h))).squeeze S_ squeezes_S1x1_S_).sem
  | .inr h => ((cc0_scratch12.slice (Rect.unit (s := S4x7) ![c.val, h.val] S1x1.size (inbS7 c h))).squeeze S_ squeezes_S1x1_S_).sem

/-! ## The steps -/

/-- The copy of this device's rows of `dy`. -/
def getDy (d : Dev nD) : PG F PUnit :=
  Prog.lift (.enqueueDma (dyS d) (.here dB) (.dma dyD) (View.wordExact_bits rfl) (Memref.isWhole_whole _).wordExact ⟨Or.inl rfl, trivial⟩)
def waitDy (d : Dev nD) : PG F PUnit :=
  Prog.lift (.waitDma2 dyD (dyS d) dB (View.wordExact_bits rfl) (Memref.isWhole_whole _).wordExact)
/-- The copy of chunk `c` of `W`. -/
def getW (c : Fin 4) : PG F PUnit :=
  Prog.lift (.enqueueDma (wS c) (.here wB) (.dma wD) (View.wordExact_bits rfl) (Memref.isWhole_whole _).wordExact ⟨Or.inl rfl, trivial⟩)
def waitW (c : Fin 4) : PG F PUnit :=
  Prog.lift (.waitDma2 wD (wS c) wB (View.wordExact_bits rfl) (Memref.isWhole_whole _).wordExact)

theorem pS_words (c : Fin 4) : (pS c).view.WordExact :=
  ((Memref.isWhole_whole cc0_scratch2).wordExact_slice rfl _ (pRect_words c)).reshape _ _
theorem xS_words (c : Fin 4) : (xS c).view.WordExact :=
  ((Memref.isWhole_whole cc0_scratch3).wordExact_slice rfl _ (pRect_words c)).reshape _ _
theorem gS_words (c : Fin 4) (d : Dev nD) (j : Hop) : (gS c d j).view.WordExact :=
  (Memref.isWhole_whole cc0_scratch4).wordExact_slice rfl _ (blk_words _ _ c (sb d j) (offS_eq c d j))

/-- The partial product of chunk `c`, rounded, into its slice of the send buffer, and its copy to the partner. -/
def mul (c : Fin 4) : PG F PUnit := do
  let a ← Prog.lift (.load dB (Rect.unit (s := S128x8192) ![0, 0] S128x8192.size inb_S128x8192_S128x8192_0_0).toLoadRect (View.loadsAt_vmem h_S128x8192))
  let b ← Prog.lift (.load wB (Rect.unit (s := S512x8192) ![0, 0] S512x8192.size inb_S512x8192_S512x8192_0_0).toLoadRect (View.loadsAt_vmem h_S512x8192))
  let _ ← Prog.lift (.load pB (pRect c).toLoadRect (View.loadsAt_vmem h_S1x128x512))
  Prog.lift (.store pB (pRect c) (k0_pay1 a b) Finset.univ (View.stores_vmem h_S1x128x512 ((Memref.isWhole_whole cc0_scratch2).storeExact_slice rfl _ (pRect_packed c)) (fun _ => rfl)) (.inl rfl))

def sendX (d : Dev nD) (c : Fin 4) : PG F PUnit :=
  Prog.lift (.enqueueDma (pS c) (.remote (Dev.tc (xp d)) (xS c) (.dma (xsD c))) (.dma (xrD c)) (pS_words c) (xS_words c) ⟨⟨rfl, Or.inl rfl⟩, trivial⟩)
def waitX (c : Fin 4) : PG F PUnit :=
  Prog.lift (.waitDma2 (xrD c) (pS c) (xS c) (pS_words c) (xS_words c))
def drainX (c : Fin 4) : PG F PUnit :=
  Prog.lift (.waitDma2 (xsD c) (xS c) (pS c) (xS_words c) (pS_words c))

/-- A hop's copy. -/
def sendG (d : Dev nD) (c : Fin 4) (j : Hop) : PG F PUnit :=
  Prog.lift (.enqueueDma (gS c d j) (.remote (Dev.tc (tgt d j)) (gS c d j) (.dma (snD c j))) (.dma (rcD c j)) (gS_words c d j) (gS_words c d j) ⟨⟨rfl, Or.inl rfl⟩, trivial⟩)
/-- The wait for the block a hop delivers here. -/
def waitG (d : Dev nD) (c : Fin 4) (j : Hop) : PG F PUnit :=
  Prog.lift (.waitDma2 (rcD c j) (gS c d j) (gS c d j) (gS_words c d j) (gS_words c d j))
/-- The wait for the end of a hop's copy at its source. -/
def drainG (d : Dev nD) (c : Fin 4) (j : Hop) : PG F PUnit :=
  Prog.lift (.waitDma2 (snD c j) (gS c d j) (gS c d j) (gS_words c d j) (gS_words c d j))

/-- The block of this device: the two partial products summed, rounded into the ring's buffer. -/
def redG (d : Dev nD) (c : Fin 4) : PG F (Vec F S128x512 .f32) := do
  let a ← Prog.lift (.load pB (pRect c).toLoadRect (View.loadsAt_vmem h_S1x128x512))
  let b ← Prog.lift (.load xB (pRect c).toLoadRect (View.loadsAt_vmem h_S1x128x512))
  let _ ← Prog.lift (.load gB (blk (offP c d) (offP_inb c d)).toLoadRect (View.loadsAt_vmem h_S128x512))
  Prog.lift (.store gB (blk (offP c d) (offP_inb c d)) (k0_pay4 a b) Finset.univ (View.stores_vmem h_S128x512 ((Memref.isWhole_whole cc0_scratch4).storeExact_slice rfl _ (blk_packed _ _ c (pos d) (offP_eq c d))) (fun _ => rfl)) (.inl rfl))
  pure (k0_pay3 a b)
/-- A block of the result. -/
def putO (off : Fin 2 → Nat) (h : ∀ a, off a + S128x512.size a ≤ S2048x2048.size a) (v : Vec F S128x512 .f32) : PG F PUnit := do
  let _ ← Prog.lift (.load oB (blk off h).toLoadRect (View.loadsAt_vmem h_S128x512))
  Prog.lift (.store oB (blk off h) v Finset.univ (View.stores_vmem_bits_univ h_S128x512 rfl) (.inl rfl))
/-- A received block, widened into the result. -/
def relay (d : Dev nD) (c : Fin 4) (j : Hop) : PG F PUnit := do
  let a : Vec F S128x512 .bf16 ← Prog.lift (.load gB (blk (offR c d j) (offR_inb c d j)).toLoadRect (View.loadsAt_vmem h_S128x512))
  putO (offR c d j) (offR_inb c d j) (extf .f32 a bitsLt_bf16_f32)

/-! ## The body -/

/-- A program for each member of a list, in order. -/
def each {α : Type} (f : α → PG F PUnit) : List α → PG F PUnit
  | [] => pure ⟨⟩
  | a :: l => f a >>= fun _ => each f l

def prologue (d : Dev nD) : PG F PUnit := do
  getDy d
  getW 0
  semSignalWord (rn d) barS 1#32
  semSignalWord (ln d) barS 1#32
  semSignalWord (xp d) barS 1#32
  semWaitWord barS 3#32
  waitDy d

/-- Chunk `c`'s product, on its way to the partner. -/
def chunk (d : Dev nD) (c : Fin 4) : PG F PUnit := do
  waitW c
  mul c
  sendX d c

/-- Chunk `c`'s sum, on its way around both rings. -/
def finish (d : Dev nD) (c : Fin 4) : PG F PUnit := do
  waitX c
  let v ← redG d c
  sendG d c (.inl 0)
  sendG d c (.inr 0)
  putO (offP c d) (offP_inb c d) v

/-- A hop both of whose blocks go on. -/
def hop (d : Dev nD) (a : Fin 6 × Fin 4) : PG F PUnit := do
  waitG d a.2 (.inl ⟨a.1.val, by omega⟩)
  sendG d a.2 (.inl ⟨a.1.val + 1, by omega⟩)
  waitG d a.2 (.inr ⟨a.1.val, by omega⟩)
  sendG d a.2 (.inr ⟨a.1.val + 1, by omega⟩)
  relay d a.2 (.inl ⟨a.1.val, by omega⟩)
  relay d a.2 (.inr ⟨a.1.val, by omega⟩)

/-- The hop after which only the block from the left goes on. -/
def hop6 (d : Dev nD) (c : Fin 4) : PG F PUnit := do
  waitG d c (.inl 6)
  sendG d c (.inl 7)
  waitG d c (.inr 6)
  relay d c (.inl 6)
  relay d c (.inr 6)

/-- The last hop. -/
def hop7 (d : Dev nD) (c : Fin 4) : PG F PUnit := do
  waitG d c (.inl 7)
  relay d c (.inl 7)

/-- The hops in the order in which the copies are waited for. -/
abbrev hopList : List Hop := [.inl 0, .inl 1, .inl 2, .inl 3, .inl 4, .inl 5, .inl 6, .inl 7, .inr 0, .inr 1, .inr 2, .inr 3, .inr 4, .inr 5, .inr 6]

def drain (d : Dev nD) (c : Fin 4) : PG F PUnit := do
  drainX c
  each (drainG d c) hopList

abbrev hops : List (Fin 6 × Fin 4) :=
  [(0, 0), (0, 1), (0, 2), (0, 3), (1, 0), (1, 1), (1, 2), (1, 3), (2, 0), (2, 1), (2, 2), (2, 3),
   (3, 0), (3, 1), (3, 2), (3, 3), (4, 0), (4, 1), (4, 2), (4, 3), (5, 0), (5, 1), (5, 2), (5, 3)]

def tail (d : Dev nD) : PG F PUnit := do
  each (hop d) hops
  each (hop6 d) [0, 1, 2, 3]
  each (hop7 d) [0, 1, 2, 3]
  each (drain d) [0, 1, 2, 3]

def body : PG F PUnit := do
  let d ← Prog.lift .deviceId
  prologue d
  chunk d 0
  getW 1
  chunk d 1
  finish d 0
  getW 2
  chunk d 2
  finish d 1
  getW 3
  chunk d 3
  finish d 2
  finish d 3
  tail d

set_option maxHeartbeats 4000000 in
theorem cc0_body_eq : bodyAt0 (F := F) Gen.t0_0 = body := by chain_rfl

end Cert.KernelIdeal.Ring

end
-- ==== Proof.Geom.lean ====
/- The values the kernel leaves in its buffers, and the blocks in which the buffers are held. -/
module

public import proofs.«01_k».proof.Proof.Prog

@[expose] public section

set_option maxRecDepth 16384

noncomputable section

namespace Cert.KernelIdeal.Ring

open Idealize.ShloMosaic Idealize.ShloMosaic.TcCoe Idealize.SL.Sem
open Cert.KernelIdeal Cert.KernelIdeal.Gen

variable {F : FTy → Type} [FloatOps F]

/-! ## The rings -/

theorem rn_ln : ∀ d, rn (ln d) = d := by decide +kernel
theorem ln_rn : ∀ d, ln (rn d) = d := by decide +kernel
theorem xp_xp : ∀ d, xp (xp d) = d := by decide +kernel

/-- The device a hop's copy comes from. -/
def org (d : Dev nD) : Hop → Dev nD
  | .inl _ => ln d
  | .inr _ => rn d
theorem tgt_org : ∀ (j : Hop) (d : Dev nD), tgt (org d j) j = d := by decide +kernel
theorem org_tgt : ∀ (j : Hop) (d : Dev nD), org (tgt d j) j = d := by decide +kernel
theorem rb_tgt : ∀ (d : Dev nD) (j : Hop), rb (tgt d j) j = sb d j := by decide +kernel
theorem sb_org : ∀ (d : Dev nD) (j : Hop), sb (org d j) j = rb d j := by decide +kernel

/-- The hop that sends on what a hop receives. -/
def next : Hop → Option Hop
  | .inl h => if h' : h.val + 1 < 8 then some (.inl ⟨h.val + 1, h'⟩) else none
  | .inr h => if h' : h.val + 1 < 7 then some (.inr ⟨h.val + 1, h'⟩) else none
theorem sb_next : ∀ (d : Dev nD) (j j' : Hop), next j = some j' → sb d j' = rb d j := by decide +kernel

/-- The row blocks of a column chunk: the device's own, and one a hop. -/
def rowOf (d : Dev nD) : Option Hop → Fin 16
  | none => pos d
  | some j => rb d j
theorem rowOf_bij : ∀ d, Function.Bijective (rowOf d) := by
  unfold Function.Bijective Function.Injective Function.Surjective; decide +kernel
/-- Every row block, as the device's own or a hop's. -/
def rowEquiv (d : Dev nD) : Option Hop ≃ Fin 16 := Equiv.ofBijective (rowOf d) (rowOf_bij d)

/-- The device at place `o` of `d`'s ring. -/
def at' (d : Dev nD) (o : Fin 16) : Dev nD :=
  ⟨d.val / 16 * 16 + (![0, 1, 2, 3, 7, 6, 5, 4, 8, 9, 10, 11, 15, 14, 13, 12] o : Fin 16).val, by
    have h : d.val < 32 := d.isLt
    show _ < 32
    have := (![0, 1, 2, 3, 7, 6, 5, 4, 8, 9, 10, 11, 15, 14, 13, 12] o : Fin 16).isLt; omega⟩
theorem at_pos : ∀ d, at' d (pos d) = d := by decide +kernel
theorem at_tgt : ∀ (d : Dev nD) (j : Hop) (o : Fin 16), at' (tgt d j) o = at' d o := by decide +kernel
theorem pos_at : ∀ (d : Dev nD) (o : Fin 16), pos (at' d o) = o := by decide +kernel
theorem rb_ne_pos : ∀ (d : Dev nD) (j : Hop), rb d j ≠ pos d := by decide +kernel

/-! ## Sets of elements -/

/-- The elements of row block `o` of column chunk `c`. -/
abbrev bset (a : Fin 4 × Fin 16) : Finset S2048x2048.Idx := (blk (cor a.1 a.2) (cor_inb a.1 a.2)).set
/-- The elements of slice `c` of a buffer of four. -/
abbrev pset (c : Fin 4) : Finset S4x128x512.Idx := (pRect c).set

theorem mem_bset (a : Fin 4 × Fin 16) (i : S2048x2048.Idx) : i ∈ bset a ↔ (i 0).val / 128 = a.2.val ∧ (i 1).val / 512 = a.1.val := by
  rw [Rect.mem_set_unit]
  constructor
  · intro h
    have h0 := h 0; have h1 := h 1
    change 128 * a.2.val ≤ _ ∧ _ < 128 * a.2.val + 128 at h0
    change 512 * a.1.val ≤ _ ∧ _ < 512 * a.1.val + 512 at h1
    omega
  · rintro ⟨h0, h1⟩ x
    match x with
    | 0 => change 128 * a.2.val ≤ _ ∧ _ < 128 * a.2.val + 128; omega
    | 1 => change 512 * a.1.val ≤ _ ∧ _ < 512 * a.1.val + 512; omega
    | ⟨_ + 2, h⟩ => exact absurd h (by show ¬ (_ < 2); omega)

theorem bset_disj (a b : Fin 4 × Fin 16) (h : a ≠ b) : Disjoint (bset a) (bset b) := by
  refine Finset.disjoint_left.mpr fun i ha hb => h ?_
  rw [mem_bset] at ha hb
  exact Prod.ext (Fin.ext (ha.2.symm.trans hb.2)) (Fin.ext (ha.1.symm.trans hb.1))

theorem bset_cover : (Finset.univ : Finset (Fin 4 × Fin 16)).biUnion bset = Finset.univ := by
  refine Finset.eq_univ_iff_forall.mpr fun i => Finset.mem_biUnion.mpr ?_
  have h0 : (i 0).val < 2048 := (i 0).isLt
  have h1 : (i 1).val < 2048 := (i 1).isLt
  exact ⟨(⟨(i 1).val / 512, by omega⟩, ⟨(i 0).val / 128, by omega⟩), Finset.mem_univ _, (mem_bset _ _).mpr ⟨rfl, rfl⟩⟩

theorem mem_pset (c : Fin 4) (i : S4x128x512.Idx) : i ∈ pset c ↔ (i 0).val = c.val := by
  rw [Rect.mem_set_unit]
  constructor
  · intro h
    have h0 := h 0
    change c.val ≤ _ ∧ _ < c.val + 1 at h0
    omega
  · intro h x
    have h1 : (i 1).val < 128 := (i 1).isLt
    have h2 : (i 2).val < 512 := (i 2).isLt
    match x with
    | 0 => change c.val ≤ _ ∧ _ < c.val + 1; omega
    | 1 => change 0 ≤ _ ∧ _ < 0 + 128; omega
    | 2 => change 0 ≤ _ ∧ _ < 0 + 512; omega
    | ⟨_ + 3, h⟩ => exact absurd h (by show ¬ (_ < 3); omega)

theorem pset_disj (a b : Fin 4) (h : a ≠ b) : Disjoint (pset a) (pset b) := by
  refine Finset.disjoint_left.mpr fun i ha hb => h ?_
  rw [mem_pset] at ha hb
  exact Fin.ext (ha.symm.trans hb)

theorem pset_cover : (Finset.univ : Finset (Fin 4)).biUnion pset = Finset.univ := by
  refine Finset.eq_univ_iff_forall.mpr fun i => Finset.mem_biUnion.mpr ?_
  have h0 : (i 0).val < 4 := (i 0).isLt
  exact ⟨⟨(i 0).val, h0⟩, Finset.mem_univ _, (mem_pset _ _).mpr rfl⟩

/-! ## Contents -/

/-- An index of a block. -/
def ix (a : Fin 128) (b : Fin 512) : S128x512.Idx
  | 0 => a
  | 1 => b
  | ⟨_ + 2, h⟩ => absurd h (by show ¬ (_ < 2); omega)
/-- An index of one slice. -/
def ix1 (a : Fin 128) (b : Fin 512) : S1x128x512.Idx
  | 0 => (0 : Fin 1)
  | 1 => a
  | 2 => b
  | ⟨_ + 3, h⟩ => absurd h (by show ¬ (_ < 3); omega)

/-- The array of which `f c o` is row block `o` of column chunk `c`. -/
def glue {e : EltTy} (f : Fin 4 → Fin 16 → Vec F S128x512 e) : Vec F S2048x2048 e := fun i =>
  have h0 : (i 0).val < 2048 := (i 0).isLt
  have h1 : (i 1).val < 2048 := (i 1).isLt
  f ⟨(i 1).val / 512, by omega⟩ ⟨(i 0).val / 128, by omega⟩ (ix ⟨(i 0).val % 128, by omega⟩ ⟨(i 1).val % 512, by omega⟩)

theorem glue_at {e : EltTy} (f : Fin 4 → Fin 16 → Vec F S128x512 e) (c : Fin 4) (o : Fin 16) (x : S128x512.Idx) (i : S2048x2048.Idx)
    (h0 : (i 0).val = 128 * o.val + (x 0).val) (h1 : (i 1).val = 512 * c.val + (x 1).val) : glue f i = f c o x := by
  have hx0 : (x 0).val < 128 := (x 0).isLt
  have hx1 : (x 1).val < 512 := (x 1).isLt
  unfold glue
  have e1 : (⟨(i 1).val / 512, by have : (i 1).val < 2048 := (i 1).isLt; omega⟩ : Fin 4) = c := Fin.ext (by show _ / 512 = _; omega)
  have e0 : (⟨(i 0).val / 128, by have : (i 0).val < 2048 := (i 0).isLt; omega⟩ : Fin 16) = o := Fin.ext (by show _ / 128 = _; omega)
  have ex : ix ⟨(i 0).val % 128, by omega⟩ ⟨(i 1).val % 512, by omega⟩ = x := by
    funext a
    match a with
    | 0 => exact Fin.ext (by show _ % 128 = _; omega)
    | 1 => exact Fin.ext (by show _ % 512 = _; omega)
    | ⟨_ + 2, h⟩ => exact absurd h (by show ¬ (_ < 2); omega)
  dsimp only
  rw [e0, e1, ex]

theorem glue_emb {e : EltTy} (f : Fin 4 → Fin 16 → Vec F S128x512 e) (c : Fin 4) (o : Fin 16) (x : S128x512.Idx) :
    glue f ((blk (cor c o) (cor_inb c o)).emb x) = f c o x :=
  glue_at f c o x _ (by rw [Rect.emb_apply]; show 128 * o.val + 1 * _ = _; omega) (by rw [Rect.emb_apply]; show 512 * c.val + 1 * _ = _; omega)

/-- The array of which `f c` is slice `c`. -/
def stack {e : EltTy} (f : Fin 4 → Vec F S1x128x512 e) : Vec F S4x128x512 e := fun i =>
  f ⟨(i 0).val, (i 0).isLt⟩ (ix1 ⟨(i 1).val, (i 1).isLt⟩ ⟨(i 2).val, (i 2).isLt⟩)

theorem stack_emb {e : EltTy} (f : Fin 4 → Vec F S1x128x512 e) (c : Fin 4) (x : S1x128x512.Idx) :
    stack f ((pRect c).emb x) = f c x := by
  have hx0 : (x 0).val < 1 := (x 0).isLt
  have v0 : (((pRect c).emb x) 0).val = c.val + 1 * (x 0).val := Rect.emb_apply _ _ _
  have v1 : (((pRect c).emb x) 1).val = 0 + 1 * (x 1).val := Rect.emb_apply _ _ _
  have v2 : (((pRect c).emb x) 2).val = 0 + 1 * (x 2).val := Rect.emb_apply _ _ _
  unfold stack
  have e0 : (⟨(((pRect c).emb x) 0).val, (((pRect c).emb x) 0).isLt⟩ : Fin 4) = c := Fin.ext (by show ((pRect c).emb x 0).val = _; omega)
  have ex : ix1 ⟨(((pRect c).emb x) 1).val, (((pRect c).emb x) 1).isLt⟩ ⟨(((pRect c).emb x) 2).val, (((pRect c).emb x) 2).isLt⟩ = x := by
    funext a
    match a with
    | 0 => exact Fin.ext (by show 0 = _; omega)
    | 1 => exact Fin.ext (by show ((pRect c).emb x 1).val = _; omega)
    | 2 => exact Fin.ext (by show ((pRect c).emb x 2).val = _; omega)
    | ⟨_ + 3, h⟩ => exact absurd h (by show ¬ (_ < 3); omega)
  rw [e0, ex]

variable (m : (ℓ : Loc nD τ sig) → Buf (Elt F) ℓ)

/-- Device `d`'s rows of its half of `dy`. -/
def dyv (d : Dev nD) : Vec F S128x8192 .f32 := (dyS d).view.read (Elt F) (m ((d : Thread nD τ).loc main_arg0))
/-- Rows `512 c …` of its half of `W`. -/
def wv (d : Dev nD) (c : Fin 4) : Vec F S512x8192 .f32 := (wS c).view.read (Elt F) (m ((d : Thread nD τ).loc main_arg1))
/-- The partial product of chunk `c`, as sent to the partner. -/
def pv (d : Dev nD) (c : Fin 4) : Vec F S1x128x512 .bf16 := k0_pay1 (dyv m d) (wv m d c)
/-- The sum of the two partial products, -/
def rd (d : Dev nD) (c : Fin 4) : Vec F S128x512 .f32 := k0_pay3 (pv m d c) (pv m (xp d) c)
/-- as sent around the rings. -/
def gv (d : Dev nD) (c : Fin 4) : Vec F S128x512 .bf16 := k0_pay4 (pv m d c) (pv m (xp d) c)
/-- A block of the result: the device's own sum, another's as received. -/
def ov (d : Dev nD) (c : Fin 4) (o : Fin 16) : Vec F S128x512 .f32 :=
  if o = pos d then rd m d c else extf .f32 (gv m (at' d o) c) bitsLt_bf16_f32

/-- The send buffer of the partial products, all four chunks in it. -/
def pfin (d : Dev nD) : Vec F S4x128x512 .bf16 := stack (pv m d)
/-- The ring's buffer, every block in it. -/
def gfin (d : Dev nD) : Vec F S2048x2048 .bf16 := glue fun c o => gv m (at' d o) c
/-- The result. -/
def ofin (d : Dev nD) : Vec F S2048x2048 .f32 := glue (ov m d)

theorem gfin_tgt (d : Dev nD) (j : Hop) : gfin m (tgt d j) = gfin m d := by
  unfold gfin; simp only [at_tgt]

/-- The view of a block of the ring's buffer, at any spelling of its corner. -/
abbrev gM (off : Fin 2 → Nat) (h : ∀ a, off a + S128x512.size a ≤ S2048x2048.size a) : Memref sig .tc .vmem S128x512 .bf16 :=
  gB.slice (blk off h) (fun _ => rfl)

theorem gM_set (c : Fin 4) (o : Fin 16) : (gM (cor c o) (cor_inb c o)).view.set = bset (c, o) := View.set_slice_whole _ _
theorem oM_set (c : Fin 4) (o : Fin 16) : (oB.access (blk (cor c o) (cor_inb c o))).set = bset (c, o) := View.set_slice_whole _ _
theorem pA_set (c : Fin 4) : (pB.access (pRect c)).set = pset c := View.set_slice_whole _ _
theorem xA_set (c : Fin 4) : (xB.access (pRect c)).set = pset c := View.set_slice_whole _ _
theorem pS_set (c : Fin 4) : (pS c).view.set = pset c := (View.set_reshape _ _).trans (pA_set c)
theorem xS_set (c : Fin 4) : (xS c).view.set = pset c := (View.set_reshape _ _).trans (xA_set c)

theorem read_g (c : Fin 4) (o : Fin 16) (f : Fin 4 → Fin 16 → Vec F S128x512 .bf16) :
    (gB.access (blk (cor c o) (cor_inb c o))).read (Elt F) (glue f) = f c o := funext fun x => glue_emb f c o x
theorem read_o (c : Fin 4) (o : Fin 16) (f : Fin 4 → Fin 16 → Vec F S128x512 .f32) :
    (oB.access (blk (cor c o) (cor_inb c o))).read (Elt F) (glue f) = f c o := funext fun x => glue_emb f c o x
theorem read_p (c : Fin 4) (f : Fin 4 → Vec F S1x128x512 .bf16) :
    (pB.access (pRect c)).read (Elt F) (stack f) = f c := funext fun x => stack_emb f c x
theorem read_x (c : Fin 4) (f : Fin 4 → Vec F S1x128x512 .bf16) :
    (xB.access (pRect c)).read (Elt F) (stack f) = f c := funext fun x => stack_emb f c x
theorem read_px (c : Fin 4) (f : Vec F S4x128x512 .bf16) :
    (pS c).view.read (Elt F) f = (xS c).view.read (Elt F) f := rfl

end Cert.KernelIdeal.Ring

end
-- ==== Proof.Sched.lean ====
/- The protocol between the devices: the semaphores' rounds, who pays for each and what it hands over, and the order
   in which the waits are allowed. -/
module

public import proofs.«01_k».proof.Proof.Geom
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (one duty a round) and the protocol's (three) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-! ## The cells -/

/-- The kernel's own semaphores: the two input copies', the exchange's and the rings' at source and destination. -/
inductive OK where
  | dy
  | w
  | xs (c : Fin 4)
  | xr (c : Fin 4)
  | sn (c : Fin 4) (j : Hop)
  | rc (c : Fin 4) (j : Hop)
  deriving DecidableEq

def okEquiv : (Unit ⊕ Unit) ⊕ ((Fin 4 ⊕ Fin 4) ⊕ (Fin 4 × Hop ⊕ Fin 4 × Hop)) ≃ OK where
  toFun
    | .inl (.inl _) => .dy
    | .inl (.inr _) => .w
    | .inr (.inl (.inl c)) => .xs c
    | .inr (.inl (.inr c)) => .xr c
    | .inr (.inr (.inl a)) => .sn a.1 a.2
    | .inr (.inr (.inr a)) => .rc a.1 a.2
  invFun
    | .dy => .inl (.inl ())
    | .w => .inl (.inr ())
    | .xs c => .inr (.inl (.inl c))
    | .xr c => .inr (.inl (.inr c))
    | .sn c j => .inr (.inr (.inl (c, j)))
    | .rc c j => .inr (.inr (.inr (c, j)))
  left_inv x := by rcases x with (_ | _) | (_ | _) | (_ | _) <;> rfl
  right_inv x := by cases x <;> rfl
instance : Fintype OK := Fintype.ofEquiv _ okEquiv

/-- All of them: `none` is the barrier's. -/
abbrev CK := Option OK

def osem : OK → SemLoc sig
  | .dy => .dma dyD
  | .w => .dma wD
  | .xs c => .dma (xsD c)
  | .xr c => .dma (xrD c)
  | .sn c j => .dma (snD c j)
  | .rc c j => .dma (rcD c j)
def csem : CK → SemLoc sig
  | none => .reg barS
  | some k => osem k

theorem csem_inj : Function.Injective csem := by unfold Function.Injective; decide +kernel

abbrev kcell (a : Dev nD × CK) : GSem nD τ sig := ((a.1 : Thread nD τ), csem a.2)
theorem kcell_inj : Function.Injective kcell := by
  rintro ⟨d, k⟩ ⟨d', k'⟩ h
  exact Prod.ext (congrArg (fun g : GSem nD τ sig => g.1.1) h) (csem_inj (congrArg (fun g : GSem nD τ sig => g.2) h))

/-- Which of the kernel's semaphores one is. -/
def decK (s : SemLoc sig) : Option CK := Function.partialInv csem s
theorem decK_csem (k : CK) : decK (csem k) = some k := Function.partialInv_left csem_inj k

/-! ## What is held -/

/-- A block of the ring's buffer, -/
def gP (d : Dev nD) (c : Fin 4) (o : Fin 16) (q : PosShare TreeShare) (f : Buf (Elt F) ((d : Thread nD τ).loc cc0_scratch4)) : sProp 𝕄 :=
  ((d : Thread nD τ).loc cc0_scratch4) ↦[bset (c, o)]{q} f
/-- of the result, -/
def oP (d : Dev nD) (c : Fin 4) (o : Fin 16) (f : Buf (Elt F) ((d : Thread nD τ).loc cc0_stg0_0)) : sProp 𝕄 :=
  ((d : Thread nD τ).loc cc0_stg0_0) ↦[bset (c, o)]{fullShare} f
/-- a slice of the send buffer, -/
def pP (d : Dev nD) (c : Fin 4) (q : PosShare TreeShare) (f : Buf (Elt F) ((d : Thread nD τ).loc cc0_scratch2)) : sProp 𝕄 :=
  ((d : Thread nD τ).loc cc0_scratch2) ↦[pset c]{q} f
/-- of the receive buffer, -/
def xP (d : Dev nD) (c : Fin 4) (f : Buf (Elt F) ((d : Thread nD τ).loc cc0_scratch3)) : sProp 𝕄 :=
  ((d : Thread nD τ).loc cc0_scratch3) ↦[pset c]{fullShare} f
/-- the two operands' buffers, -/
def dP (d : Dev nD) (f : Buf (Elt F) ((d : Thread nD τ).loc cc0_scratch0)) : sProp 𝕄 := ((d : Thread nD τ).loc cc0_scratch0) ↦{fullShare} f
def wP (d : Dev nD) (f : Buf (Elt F) ((d : Thread nD τ).loc cc0_scratch1)) : sProp 𝕄 := ((d : Thread nD τ).loc cc0_scratch1) ↦{fullShare} f
/-- and what the input copies read. -/
def dySrc (d : Dev nD) : sProp 𝕄 := ((d : Thread nD τ).loc main_arg0) ↦[(dyS d).view.set]{fullShare.left} m ((d : Thread nD τ).loc main_arg0)
def wSrc (d : Dev nD) (c : Fin 4) : sProp 𝕄 := ((d : Thread nD τ).loc main_arg1) ↦[(wS c).view.set]{fullShare.left} m ((d : Thread nD τ).loc main_arg1)

omit [FloatOps F] in
instance gP_st (d c o q f) : BI.Storable (upEmb : UEmb _ 𝕄) (gP (F := F) d c o q f) := by unfold gP; infer_instance
omit [FloatOps F] in
instance pP_st (d c q f) : BI.Storable (upEmb : UEmb _ 𝕄) (pP (F := F) d c q f) := by unfold pP; infer_instance
omit [FloatOps F] in
instance xP_st (d c f) : BI.Storable (upEmb : UEmb _ 𝕄) (xP (F := F) d c f) := by unfold xP; infer_instance
omit [FloatOps F] in
instance dP_st (d f) : BI.Storable (upEmb : UEmb _ 𝕄) (dP (F := F) d f) := by unfold dP; infer_instance
omit [FloatOps F] in
instance wP_st (d f) : BI.Storable (upEmb : UEmb _ 𝕄) (wP (F := F) d f) := by unfold wP; infer_instance
instance dySrc_st (d) : BI.Storable (upEmb : UEmb _ 𝕄) (dySrc m d) := by unfold dySrc; infer_instance
instance wSrc_st (d c) : BI.Storable (upEmb : UEmb _ 𝕄) (wSrc m d c) := by unfold wSrc; infer_instance

/-- The share of its block a hop sends from: the device's own block goes both ways, and a half of a received block is
    kept for reading. -/
def shr : Hop → PosShare TreeShare
  | .inl _ => fullShare.left
  | .inr h => if h = 0 then fullShare.right else fullShare.left

/-- The blocks that the copies onto a neighbour write. -/
def lend (d : Dev nD) (a : Fin 4 × Hop) : sProp 𝕄 := iprop(∃ f, gP (tgt d a.2) a.1 (sb d a.2) fullShare f)
omit [FloatOps F] in
instance lend_st (d a) : BI.Storable (upEmb : UEmb _ 𝕄) (lend (F := F) d a) := by unfold lend; infer_instance
/-- The slices that the copies onto the partner write. -/
def lendX (d : Dev nD) (c : Fin 4) : sProp 𝕄 := iprop(∃ f, xP (xp d) c f)
omit [FloatOps F] in
instance lendX_st (d c) : BI.Storable (upEmb : UEmb _ 𝕄) (lendX (F := F) d c) := by unfold lendX; infer_instance

/-! ## The schedule -/

/-- Rounds of a semaphore: four of `W`'s copies, one of anything else. -/
def nr : CK → ℕ
  | some .w => 4
  | _ => 1
/-- Duties of a round: the barrier's are three, by who pays: 0 the left neighbour, 1 the right one, 2 the partner. -/
def kd : CK → Finset (Fin 3)
  | none => Finset.univ
  | _ => {0}
/-- Units of a duty. -/
def amt : CK → ℕ
  | none => 1
  | some .dy => dB.view.dmaCredit
  | some .w => wB.view.dmaCredit
  | some (.xs _) => (xS 0).view.dmaCredit
  | some (.xr _) => (xS 0).view.dmaCredit
  | some (.sn _ _) => (gM (cor 0 0) (cor_inb 0 0)).view.dmaCredit
  | some (.rc _ _) => (gM (cor 0 0) (cor_inb 0 0)).view.dmaCredit
theorem amt_pos (k : CK) : 0 < amt k := by
  match k with
  | none => exact Nat.one_pos
  | some .dy => exact View.dmaCredit_pos _ (by decide)
  | some .w => exact View.dmaCredit_pos _ (by decide)
  | some (.xs _) => exact View.dmaCredit_pos _ (by decide)
  | some (.xr _) => exact View.dmaCredit_pos _ (by decide)
  | some (.sn _ _) => exact View.dmaCredit_pos _ (by decide)
  | some (.rc _ _) => exact View.dmaCredit_pos _ (by decide)

/-- What a duty hands over. -/
def pay (d : Dev nD) : CK → ℕ → Fin 3 → sProp 𝕄
  | none, _, 0 => bigSep Finset.univ fun a : Fin 4 × Fin 7 => lend d (a.1, .inr a.2)
  | none, _, 1 => bigSep Finset.univ fun a : Fin 4 × Fin 8 => lend d (a.1, .inl a.2)
  | none, _, 2 => bigSep Finset.univ fun c : Fin 4 => lendX d c
  | some .dy, _, _ => iprop(dP d (dyv m d) ∗ dySrc m d)
  | some .w, r, _ => iprop(wP d (wv m d (Fin.ofNat 4 r)) ∗ wSrc m d (Fin.ofNat 4 r))
  | some (.xs c), _, _ => pP d c fullShare.left (pfin m d)
  | some (.xr c), _, _ => xP d c (pfin m (xp d))
  | some (.sn c j), _, _ => gP d c (sb d j) (shr j) (gfin m d)
  | some (.rc c j), _, _ => gP d c (rb d j) fullShare (gfin m d)

instance pay_st (d k r δ) : BI.Storable (upEmb : UEmb _ 𝕄) (pay m d k r δ) := by
  unfold pay; split <;> infer_instance

def Rd : Rounds.Schedule (GSem nD τ sig) (Fin 3) 𝕄 where
  duties g r := match decK g.2 with
    | none => ∅
    | some k => if r < nr k then kd k else ∅
  unitless _ := False
  amount g _ _ := match decK g.2 with
    | none => 1
    | some k => amt k
  payload g r δ := match decK g.2 with
    | none => iprop(emp)
    | some k => pay m g.1.1 k r δ
  amount_pos g _ _ _ := by
    split
    · exact Nat.one_pos
    · exact amt_pos _

instance Rd_storable (g : GSem nD τ sig) (r : ℕ) (δ : Fin 3) : BI.Storable (upEmb : UEmb _ 𝕄) ((Rd m).payload g r δ) := by
  dsimp only [Rd]; split <;> infer_instance

theorem duties_eq (a : Dev nD × CK) (r : ℕ) : (Rd m).duties (kcell a) r = if r < nr a.2 then kd a.2 else ∅ := by
  dsimp only [Rd, kcell]; rw [decK_csem]
theorem duties_of_lt (a : Dev nD × CK) {r : ℕ} (h : r < nr a.2) : (Rd m).duties (kcell a) r = kd a.2 := by rw [duties_eq, if_pos h]
theorem duties_later (a : Dev nD × CK) (r : ℕ) (h : nr a.2 ≤ r) : (Rd m).duties (kcell a) r = ∅ := by rw [duties_eq, if_neg (by omega)]
theorem amount_eq (a : Dev nD × CK) (r : ℕ) (δ : Fin 3) : (Rd m).amount (kcell a) r δ = amt a.2 := by
  dsimp only [Rd, kcell]; rw [decK_csem]
theorem payload_eq (a : Dev nD × CK) (r : ℕ) (δ : Fin 3) : (Rd m).payload (kcell a) r δ = pay m a.1 a.2 r δ := by
  dsimp only [Rd, kcell]; rw [decK_csem]
theorem expect_eq (a : Dev nD × CK) {r : ℕ} (h : r < nr a.2) : (Rd m).expect (kcell a) r = (kd a.2).card * amt a.2 := by
  unfold Schedule.expect Schedule.amountOf
  rw [duties_of_lt m a h, Finset.sum_congr rfl fun δ _ => amount_eq m a r δ, Finset.sum_const, smul_eq_mul]

/-! ## Who pays -/

/-- The duties, by the semaphore they are duties of. -/
inductive Tk where
  | bar (δ : Fin 3)
  | x (c : Fin 4)
  | ring (c : Fin 4) (j : Hop)
  | dy
  | w (r : Fin 4)
  | xs (c : Fin 4)
  | sn (c : Fin 4) (j : Hop)
  deriving DecidableEq

namespace Tk

def equiv : (Fin 3 ⊕ (Fin 4 ⊕ Fin 4 × Hop)) ⊕ ((Unit ⊕ Fin 4) ⊕ (Fin 4 ⊕ Fin 4 × Hop)) ≃ Tk where
  toFun
    | .inl (.inl δ) => .bar δ
    | .inl (.inr (.inl c)) => .x c
    | .inl (.inr (.inr a)) => .ring a.1 a.2
    | .inr (.inl (.inl _)) => .dy
    | .inr (.inl (.inr r)) => .w r
    | .inr (.inr (.inl c)) => .xs c
    | .inr (.inr (.inr a)) => .sn a.1 a.2
  invFun
    | .bar δ => .inl (.inl δ)
    | .x c => .inl (.inr (.inl c))
    | .ring c j => .inl (.inr (.inr (c, j)))
    | .dy => .inr (.inl (.inl ()))
    | .w r => .inr (.inl (.inr r))
    | .xs c => .inr (.inr (.inl c))
    | .sn c j => .inr (.inr (.inr (c, j)))
  left_inv x := by rcases x with (_ | (_ | _)) | (_ | _) | (_ | _) <;> rfl
  right_inv x := by cases x <;> rfl
instance : Fintype Tk := Fintype.ofEquiv _ equiv

def cell : Tk → CK
  | bar _ => none
  | x c => some (.xr c)
  | ring c j => some (.rc c j)
  | dy => some .dy
  | w _ => some .w
  | xs c => some (.xs c)
  | sn c j => some (.sn c j)
def round : Tk → ℕ
  | w r => r.val
  | _ => 0
def duty : Tk → Fin 3
  | bar δ => δ
  | _ => 0
/-- The device whose semaphore device `d` pays; -/
def dev (d : Dev nD) : Tk → Dev nD
  | bar 0 => rn d
  | bar 1 => ln d
  | bar 2 => xp d
  | x _ => xp d
  | ring _ j => tgt d j
  | _ => d
/-- the device that pays device `d`'s. -/
def inv (d : Dev nD) : Tk → Dev nD
  | bar 0 => ln d
  | bar 1 => rn d
  | bar 2 => xp d
  | x _ => xp d
  | ring _ j => org d j
  | _ => d
theorem dev_inv : ∀ (t : Tk) (d : Dev nD), dev (inv d t) t = d := by decide +kernel
theorem inv_dev : ∀ (t : Tk) (d : Dev nD), inv (dev d t) t = d := by decide +kernel
theorem round_lt : ∀ t : Tk, t.round < nr t.cell := by decide +kernel
theorem duty_mem : ∀ t : Tk, t.duty ∈ kd t.cell := by decide +kernel

end Tk

/-- Duty `t` of device `d`'s semaphore, to be paid. -/
def tok (d : Dev nD) (t : Tk) : sProp 𝕄 := dutyTok ER (kcell (d, t.cell)) t.round t.duty

theorem tk_mem (d : Dev nD) (t : Tk) : t.duty ∈ (Rd m).duties (kcell (d, t.cell)) t.round := by
  rw [duties_of_lt m _ t.round_lt]; exact t.duty_mem

/-- What device `d` owes for a list of duties. -/
def owe (d : Dev nD) : List Tk → CellTallies nD τ sig Unit
  | [] => 0
  | t :: l => owe d l + tallyAt (kcell (t.dev d, t.cell)) () (amt t.cell)

/-- The payments to others, in the order in which they are made. -/
def hopPays (a : Fin 6 × Fin 4) : List Tk :=
  [.ring a.2 (.inl ⟨a.1.val + 1, by omega⟩), .ring a.2 (.inr ⟨a.1.val + 1, by omega⟩)]
def hop6Pays (c : Fin 4) : List Tk := [.ring c (.inl 7)]
def startPays (c : Fin 4) : List Tk := [.ring c (.inl 0), .ring c (.inr 0)]
def tailPays : List Tk := hops.flatMap hopPays ++ [0, 1, 2, 3].flatMap hop6Pays
def payList : List Tk :=
  [.bar 0, .bar 1, .bar 2, .x 0, .x 1] ++ (startPays 0 ++ ([.x 2] ++ (startPays 1 ++ ([.x 3] ++ (startPays 2 ++ (startPays 3 ++ tailPays))))))

/-! ## The levels -/

def L (g : GSem nD τ sig) : Finset Unit := if g.1.2 = .tc then {()} else ∅
/-- A hop's number. -/
def hopNo : Hop → ℕ
  | .inl h => h.val
  | .inr h => h.val
def klv : CK → ℕ
  | none => 1
  | some (.xr c) => 2 + c.val
  | some (.rc _ j) => 10 + hopNo j
  | _ => 0
def lv (g : GSem nD τ sig) (_ : Unit) : ℕ := match decK g.2 with
  | none => 0
  | some k => klv k

theorem L_of_ne (g : GSem nD τ sig) (h : g.1.2 ≠ .tc) : L g = ∅ := if_neg h
theorem L_tc (c : Dev nD) (sm : SemLoc sig) : L ((c : Thread nD τ), sm) = {()} := if_pos rfl
theorem lv_csem (c : Dev nD) (k : CK) (u : Unit) : lv ((c : Thread nD τ), csem k) u = klv k := by
  dsimp only [lv]; rw [decK_csem]

theorem owe_pos {d : Dev nD} {g : GSem nD τ sig} {u : Unit} : ∀ l : List Tk, 0 < owe d l g u → ∃ t ∈ l, g = kcell (t.dev d, t.cell)
  | [], h => absurd h (Nat.lt_irrefl 0)
  | t :: l, h => by
    by_cases hg : g = kcell (t.dev d, t.cell)
    · exact ⟨t, List.mem_cons_self, hg⟩
    · unfold owe at h
      rw [Pi.add_apply, Finsupp.add_apply, tallyAt_apply, if_neg (fun h' => hg h'.1), Nat.add_zero] at h
      obtain ⟨t', ht, e⟩ := owe_pos l h
      exact ⟨t', List.mem_cons_of_mem _ ht, e⟩

omit [FloatOps F] in
/-- A wait on a semaphore is allowed below every level the device still owes. -/
theorem mayWait_sem (d : Dev nD) (s : SemLoc sig) (b : ℕ) (hs : lv ((d : Thread nD τ), s) () = b) (T : List Tk) (h : ∀ t ∈ T, b < klv t.cell) :
    (levAts L lv : sProp 𝕄) ⊢ MayWait (d : Thread nD τ) s () (owe d T) :=
  MayOwe.of_cut (L := L) (lev := lv) b
    (fun p hp => by rw [Finset.mem_singleton.mp hp, L_tc]; exact Finset.mem_singleton_self _)
    (fun g u hg => by obtain ⟨t, -, rfl⟩ := owe_pos T hg; exact Finset.mem_singleton_self _)
    (fun p hp => by rw [Finset.mem_singleton.mp hp]; exact hs.le)
    (fun g u hg => by obtain ⟨t, ht, rfl⟩ := owe_pos T hg; rw [lv_csem]; exact h t ht)

omit [FloatOps F] in
theorem mayWait_cell (d : Dev nD) (k : CK) (T : List Tk) (h : ∀ t ∈ T, klv k < klv t.cell) :
    (levAts L lv : sProp 𝕄) ⊢ MayWait (d : Thread nD τ) (csem k) () (owe d T) :=
  mayWait_sem d (csem k) (klv k) (lv_csem d k ()) T h

/-! ## The records: every cell's invariant, every cell's round 0 reached, the levels -/

def recs (K : Dev nD × CK → ℕ) : sProp 𝕄 :=
  iprop((bigSep Finset.univ fun a : Dev nD × CK => cellInv ER (Rd m) (K a) (kcell a))
    ∗ (bigSep Finset.univ fun a : Dev nD × CK => reached ER (kcell a) 0) ∗ levAts L lv)
instance recs_persistent (K) : BI.Persistent (recs m K) := by unfold recs; infer_instance

theorem inv_at (K) (a : Dev nD × CK) : recs m K ⊢ cellInv ER (Rd m) (K a) (kcell a) := by
  unfold recs
  iintro ⟨H, -, -⟩
  iapply (show (bigSep Finset.univ fun a : Dev nD × CK => cellInv ER (Rd m) (K a) (kcell a)) ⊢ (cellInv ER (Rd m) (K a) (kcell a) : sProp 𝕄)
    from bigSep_elim (Finset.mem_univ a)) $$ H
theorem reached_at (K) (a : Dev nD × CK) : recs m K ⊢ reached ER (kcell a) 0 := by
  unfold recs
  iintro ⟨-, H, -⟩
  iapply (show (bigSep Finset.univ fun a : Dev nD × CK => reached ER (kcell a) 0) ⊢ (reached ER (kcell a) 0 : sProp 𝕄)
    from bigSep_elim (Finset.mem_univ a)) $$ H
theorem levs_at (K) : recs m K ⊢ levAts L lv := by
  unfold recs
  iintro ⟨-, -, H⟩
  iexact H

end Cert.KernelIdeal.Ring

end
-- ==== Proof.Steps.lean ====
/- The kernel's single steps against the protocol: the waits, the copies, the signals, the loads and the stores. -/
module

public import proofs.«01_k».proof.Proof.Sched

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

abbrev 𝒱₀ : Variants := Variants.none

/-- Device `d` runs `p` and is left with `Q`. -/
abbrev W {α : Type} (d : Dev nD) (p : PG F α) (Q : α → sProp 𝕄) : sProp 𝕄 :=
  wp frame (wpE (defs₀ (F := F)) 𝒱₀ (d : Thread nD τ) none) Set.univ p Q

/-- What device `d` still owes, whatever it has waited for. -/
def owesS (d : Dev nD) (T : List Tk) : sProp 𝕄 := iprop(∃ Ws : Waits sig Unit, owes (d : Thread nD τ) (owe d T) Ws)

/-- A program and then another. -/
theorem W_seq {α β : Type} {d : Dev nD} {p : PG F α} {k : α → PG F β} {P : sProp 𝕄} {Q : α → sProp 𝕄} {Q' : β → sProp 𝕄}
    (h : P ⊢ W d p Q) : P ⊢ iprop((∀ a, Q a -∗ W d (k a) Q') -∗ W d (p >>= k) Q') := by
  unfold W
  rw [wp_bind]
  iintro HP Hk
  ihave Hw := h $$ HP
  iapply (wp_wand frame (wpE (defs₀ (F := F)) 𝒱₀ (d : Thread nD τ) none) Set.univ (Q := Q)) $$ Hw
  iexact Hk

theorem W_ret {α : Type} {d : Dev nD} (a : α) (Q : α → sProp 𝕄) : Q a ⊢ W d (pure a) Q := by
  unfold W
  rw [Prog.pure_eq_ret, wp_ret]
  exact fupd_intro

/-! ## Waits -/

/-- A wait for a whole round of one of the device's own semaphores. -/
theorem W_wait {w : TpuEff nD τ sig (Elt F) Λ₀ .tc PUnit} {n : ℕ} (d : Dev nD) (k : CK) (r : ℕ)
    (hw : ∀ Q : PUnit → sProp 𝕄, wpE (defs₀ (F := F)) 𝒱₀ (d : Thread nD τ) none Set.univ w Q = waitSpec (d : Thread nD τ) Set.univ (csem k) n Q)
    (hr : r < nr k) (hn : n = (kd k).card * amt k) (T : List Tk) (hT : ∀ t ∈ T, klv k < klv t.cell) :
    iprop(recs m K ∗ cred (tallyAt (kcell (d, k)) () n) ∗ atPos ER (kcell (d, k)) r ∅ 0 ∗ owesS d T)
      ⊢ W d (Prog.lift w) fun _ => iprop(atPos ER (kcell (d, k)) (r + 1) ∅ 0 ∗ reached ER (kcell (d, k)) (r + 1)
          ∗ (bigSep (kd k) fun δ => pay m d k r δ) ∗ owesS d T) := by
  unfold owesS
  iintro ⟨#HR, Hc, Ha, ⟨%Ws, Ho⟩⟩
  ihave #Hi := (inv_at m K (d, k)) $$ HR
  ihave #Hl := (levs_at m K) $$ HR
  unfold W Prog.lift
  iapply (Rounds.wp_wait_rest_token 𝒱₀ ER (Rd m) (d : Thread nD τ) none (κ := K (d, k)) hw (Set.mem_univ _) () (O := owe d T) (W := Ws) (R := r) (m := 0) (T := ∅)
    (by rw [Nat.zero_add, hn]; exact (expect_eq m (d, k) hr).symm)) $$ [Hc Ha Ho]
  · isplitr; · iexact Hi
    isplitl [Hc]; · iexact Hc
    isplitl [Ho]; · iexact Ho
    isplitr
    · iapply (mayWait_cell d k T hT); iexact Hl
    · iexact Ha
  iintro ⟨Ho, Ha, #Hre, Hp⟩
  rw [wp_ret]
  imodintro
  isplitl [Ha]; · iexact Ha
  isplitr; · iexact Hre
  isplitl [Hp]
  · have e : (bigSep ((Rd m).duties (kcell (d, k)) r \ ∅) fun δ => (Rd m).payload (kcell (d, k)) r δ) = bigSep (kd k) fun δ => pay m d k r δ := by
      rw [Finset.sdiff_empty, duties_of_lt m (d, k) hr]
      exact bigSep_congr fun δ _ => payload_eq m (d, k) r δ
    iapply (Entails.of_eq e) $$ Hp
  iexists _; iexact Ho

/-- The same where the round has one duty. -/
theorem W_wait1 {w : TpuEff nD τ sig (Elt F) Λ₀ .tc PUnit} {n : ℕ} (d : Dev nD) (k : OK) (r : ℕ)
    (hw : ∀ Q : PUnit → sProp 𝕄, wpE (defs₀ (F := F)) 𝒱₀ (d : Thread nD τ) none Set.univ w Q = waitSpec (d : Thread nD τ) Set.univ (osem k) n Q)
    (hr : r < nr (some k)) (hn : n = amt (some k)) (T : List Tk) (hT : ∀ t ∈ T, klv (some k) < klv t.cell) :
    iprop(recs m K ∗ cred (tallyAt (kcell (d, some k)) () (amt (some k))) ∗ atPos ER (kcell (d, some k)) r ∅ 0 ∗ owesS d T)
      ⊢ W d (Prog.lift w) fun _ => iprop(atPos ER (kcell (d, some k)) (r + 1) ∅ 0 ∗ reached ER (kcell (d, some k)) (r + 1)
          ∗ pay m d (some k) r 0 ∗ owesS d T) := by
  subst hn
  have h := W_wait m K d (some k) r hw hr (by show _ = 1 * _; rw [Nat.one_mul]) T hT
  rw [show kd (some k) = {0} from rfl, bigSep_singleton] at h
  exact h

theorem W_bar (d : Dev nD) (T : List Tk) (hT : ∀ t ∈ T, 1 < klv t.cell) :
    iprop(recs m K ∗ cred (tallyAt (kcell (d, none)) () 3) ∗ atPos ER (kcell (d, none)) 0 ∅ 0 ∗ owesS d T)
      ⊢ W d (semWaitWord barS 3#32) fun _ => iprop(atPos ER (kcell (d, none)) 1 ∅ 0 ∗ reached ER (kcell (d, none)) 1
          ∗ (bigSep Finset.univ fun δ => pay m d none 0 δ) ∗ owesS d T) :=
  W_wait m K d none 0 (w := .semWait barS (3 : ℕ)) (wpE_semWait_eq 𝒱₀ (d : Thread nD τ) none Set.univ) (by decide) (by decide) T hT

/-! ## Signals -/

theorem W_signal (d : Dev nD) (δ : Fin 3) (T : List Tk) :
    iprop(recs m K ∗ pay m (Tk.dev d (.bar δ)) none 0 δ ∗ tok (Tk.dev d (.bar δ)) (.bar δ) ∗ owesS d (.bar δ :: T))
      ⊢ W d (semSignalWord (Tk.dev d (.bar δ)) barS 1#32) fun _ => (owesS d T : sProp 𝕄) := by
  unfold owesS tok
  iintro ⟨#HR, Hp, Ht, ⟨%Ws, Ho⟩⟩
  ihave #Hi := (inv_at m K (Tk.dev d (.bar δ), none)) $$ HR
  ihave #Hre := (reached_at m K (Tk.dev d (.bar δ), none)) $$ HR
  unfold W semSignalWord
  iapply (Rounds.wp_signal 𝒱₀ ER (Rd m) (d : Thread nD τ) none (dst := (Tk.dev d (.bar δ) : Thread nD τ)) (sem := barS) (r := 0)
      (κ := K (Tk.dev d (.bar δ), none)) (d := δ)
      (tk_mem m (Tk.dev d (.bar δ)) (.bar δ)) ((amount_eq m (Tk.dev d (.bar δ), none) 0 δ).trans rfl) () (owe d T) rfl) $$ [Ho Ht Hp]
  · isplitr; · iexact Hi
    isplitl [Ho]; · iexact Ho
    isplitl [Ht]; · iexact Ht
    isplitl [Hp]
    · have e : pay m (Tk.dev d (.bar δ)) none 0 δ = (Rd m).payload ((Tk.dev d (.bar δ) : Thread nD τ), SemLoc.reg barS) 0 δ :=
        (payload_eq m (Tk.dev d (.bar δ), none) 0 δ).symm
      iapply (Entails.of_eq e) $$ Hp
    · iexact Hre
  iintro Ho
  rw [wp_ret]
  imodintro
  iexists _; iexact Ho

/-! ## The input copies -/

theorem W_getDy (d : Dev nD) :
    iprop(recs m K ∗ dySrc m d ∗ (∃ f, dP d f) ∗ tok d .dy)
      ⊢ W d (getDy d) fun _ => (cred (tallyAt (kcell (d, some .dy)) () (amt (some .dy))) : sProp 𝕄) := by
  unfold dySrc dP tok
  iintro ⟨#HR, Hs, ⟨%f, Hd⟩, Ht⟩
  ihave #Hi := (inv_at m K (d, some .dy)) $$ HR
  ihave #Hre := (reached_at m K (d, some .dy)) $$ HR
  unfold W getDy Prog.lift
  iapply (Rounds.wp_copy_pointsTo 𝒱₀ ER (Rd m) (d : Thread nD τ) none (src := dyS d) (dst := dB) (q := fullShare.left)
      (fs := m ((d : Thread nD τ).loc main_arg0)) (fd := f) (r := 0) (d := 0) (κ := K (d, some .dy))
      (tk_mem m d .dy) () (amt (some .dy)) rfl (amount_eq m (d, some .dy) 0 0)
      (by
        refine BIBase.Entails.trans ?_ (Entails.of_eq (payload_eq m (d, some .dy) 0 0).symm)
        show _ ⊢ iprop(dP d (dyv m d) ∗ dySrc m d)
        unfold dP dySrc
        rw [View.set_whole, View.write_whole_univ]
        exact BI.Entails.refl _)) $$ [Hs Hd Ht]
  · isplitr; · iexact Hi
    isplitl [Hs]; · iexact Hs
    isplitl [Hd]; · rw [View.set_whole]; iexact Hd
    isplitl [Ht]; · iexact Ht
    iexact Hre
  iintro Hc
  rw [wp_ret]
  imodintro
  iexact Hc

theorem pay_w (d : Dev nD) (c : Fin 4) : pay m d (some .w) c.val 0 = iprop(wP d (wv m d c) ∗ wSrc m d c) := by
  have e : Fin.ofNat 4 c.val = c := Fin.ext (Nat.mod_eq_of_lt c.isLt)
  show iprop(wP d (wv m d (Fin.ofNat 4 c.val)) ∗ wSrc m d (Fin.ofNat 4 c.val)) = _
  rw [e]

theorem W_getW (d : Dev nD) (c : Fin 4) :
    iprop(recs m K ∗ reached ER (kcell (d, some .w)) c.val ∗ wSrc m d c ∗ (∃ f, wP d f) ∗ tok d (.w c))
      ⊢ W d (getW c) fun _ => (cred (tallyAt (kcell (d, some .w)) () (amt (some .w))) : sProp 𝕄) := by
  unfold wSrc wP tok
  iintro ⟨#HR, #Hre, Hs, ⟨%f, Hd⟩, Ht⟩
  ihave #Hi := (inv_at m K (d, some .w)) $$ HR
  unfold W getW Prog.lift
  iapply (Rounds.wp_copy_pointsTo 𝒱₀ ER (Rd m) (d : Thread nD τ) none (src := wS c) (dst := wB) (q := fullShare.left)
      (fs := m ((d : Thread nD τ).loc main_arg1)) (fd := f) (r := c.val) (d := 0) (κ := K (d, some .w))
      (tk_mem m d (.w c)) () (amt (some .w)) rfl (amount_eq m (d, some .w) c.val 0)
      (by
        refine BIBase.Entails.trans ?_ (Entails.of_eq ((payload_eq m (d, some .w) c.val 0).trans (pay_w m d c)).symm)
        unfold wP wSrc
        rw [View.set_whole, View.write_whole_univ]
        exact BI.Entails.refl _)) $$ [Hs Hd Ht]
  · isplitr; · iexact Hi
    isplitl [Hs]; · iexact Hs
    isplitl [Hd]; · rw [View.set_whole]; iexact Hd
    isplitl [Ht]; · iexact Ht
    iexact Hre
  iintro Hc
  rw [wp_ret]
  imodintro
  iexact Hc

theorem W_waitDy (d : Dev nD) (T : List Tk) (hT : ∀ t ∈ T, 0 < klv t.cell) :
    iprop(recs m K ∗ cred (tallyAt (kcell (d, some .dy)) () (amt (some .dy))) ∗ atPos ER (kcell (d, some .dy)) 0 ∅ 0 ∗ owesS d T)
      ⊢ W d (waitDy d) fun _ => iprop(atPos ER (kcell (d, some .dy)) 1 ∅ 0 ∗ reached ER (kcell (d, some .dy)) 1
          ∗ (dP d (dyv m d) ∗ dySrc m d) ∗ owesS d T) :=
  W_wait1 m K d .dy 0 (by exact fun _ => rfl) (by decide) (by rfl) T hT

theorem W_waitW (d : Dev nD) (c : Fin 4) (T : List Tk) (hT : ∀ t ∈ T, 0 < klv t.cell) :
    iprop(recs m K ∗ cred (tallyAt (kcell (d, some .w)) () (amt (some .w))) ∗ atPos ER (kcell (d, some .w)) c.val ∅ 0 ∗ owesS d T)
      ⊢ W d (waitW c) fun _ => iprop(atPos ER (kcell (d, some .w)) (c.val + 1) ∅ 0 ∗ reached ER (kcell (d, some .w)) (c.val + 1)
          ∗ (wP d (wv m d c) ∗ wSrc m d c) ∗ owesS d T) := by
  have h := W_wait1 m K d .w c.val (w := .waitDma2 wD (wS c) wB (View.wordExact_bits rfl) (Memref.isWhole_whole _).wordExact)
    (wpE_waitDma2_eq 𝒱₀ (d : Thread nD τ) none Set.univ) c.isLt rfl T hT
  rw [pay_w] at h
  exact h

/-! ## The exchange with the partner -/

theorem W_sendX (d : Dev nD) (c : Fin 4) (T : List Tk) :
    iprop(recs m K ∗ pP d c fullShare.left (pfin m d) ∗ lendX d c ∗ tok d (.xs c) ∗ tok (xp d) (.x c) ∗ owesS d (.x c :: T))
      ⊢ W d (sendX d c) fun _ => iprop(cred (tallyAt (kcell (d, some (.xs c))) () (amt (some (.xs c)))) ∗ owesS d T) := by
  unfold pP lendX xP tok owesS
  iintro ⟨#HR, Hs, ⟨%f, Hd⟩, Ht, Ht', ⟨%Ws, Ho⟩⟩
  ihave #Hi := (inv_at m K (d, some (.xs c))) $$ HR
  ihave #Hre := (reached_at m K (d, some (.xs c))) $$ HR
  ihave #Hi' := (inv_at m K (xp d, some (.xr c))) $$ HR
  ihave #Hre' := (reached_at m K (xp d, some (.xr c))) $$ HR
  unfold W sendX Prog.lift
  iapply (Rounds.wp_send_pointsTo 𝒱₀ ER (Rd m) (d : Thread nD τ) none (c' := (xp d : Thread nD τ)) (src := pS c) (dst := xS c)
      (q := fullShare.left) (fs := pfin m d) (fd := f) (r₁ := 0) (r₂ := 0) (d₁ := 0) (d₂ := 0)
      (κ₁ := K (d, some (.xs c))) (κ₂ := K (xp d, some (.xr c)))
      (tk_mem m d (.xs c)) (tk_mem m (xp d) (.x c)) () () (amt (some (.xs c))) rfl
      (amount_eq m (d, some (.xs c)) 0 0) (amount_eq m (xp d, some (.xr c)) 0 0) (owe d T) rfl (W := Ws)
      (by
        refine BIBase.Entails.trans ?_ (Entails.of_eq (payload_eq m (d, some (.xs c)) 0 0).symm)
        show _ ⊢ pP d c fullShare.left (pfin m d)
        unfold pP
        rw [pS_set])
      (by
        refine BIBase.Entails.trans ?_ (Entails.of_eq (payload_eq m (xp d, some (.xr c)) 0 0).symm)
        show _ ⊢ xP (xp d) c (pfin m (xp (xp d)))
        unfold xP
        rw [read_px, View.write_read_eq_piecewise, xp_xp, ← xS_set]
        exact Entails.of_eq (pointsTo_congr fun i hi => Finset.piecewise_eq_of_mem _ _ _ hi))) $$ [Hs Hd Ht Ht' Ho]
  · isplitr; · iexact Hi
    isplitr; · iexact Hi'
    isplitl [Hs]; · rw [pS_set]; iexact Hs
    isplitl [Hd]; · rw [xS_set]; iexact Hd
    isplitl [Ho]; · iexact Ho
    isplitl [Ht]; · iexact Ht
    isplitr; · iexact Hre
    isplitl [Ht']; · iexact Ht'
    iexact Hre'
  iintro ⟨Hc, Ho⟩
  rw [wp_ret]
  imodintro
  isplitl [Hc]; · iexact Hc
  iexists _; iexact Ho

theorem W_waitX (d : Dev nD) (c : Fin 4) (T : List Tk) (hT : ∀ t ∈ T, 2 + c.val < klv t.cell) :
    iprop(recs m K ∗ cred (tallyAt (kcell (d, some (.xr c))) () (amt (some (.xr c)))) ∗ atPos ER (kcell (d, some (.xr c))) 0 ∅ 0 ∗ owesS d T)
      ⊢ W d (waitX c) fun _ => iprop(atPos ER (kcell (d, some (.xr c))) 1 ∅ 0 ∗ reached ER (kcell (d, some (.xr c))) 1
          ∗ xP d c (pfin m (xp d)) ∗ owesS d T) :=
  W_wait1 m K d (.xr c) 0 (by exact fun _ => rfl) Nat.one_pos (by rfl) T hT

theorem W_drainX (d : Dev nD) (c : Fin 4) (T : List Tk) (hT : ∀ t ∈ T, 0 < klv t.cell) :
    iprop(recs m K ∗ cred (tallyAt (kcell (d, some (.xs c))) () (amt (some (.xs c)))) ∗ atPos ER (kcell (d, some (.xs c))) 0 ∅ 0 ∗ owesS d T)
      ⊢ W d (drainX c) fun _ => iprop(atPos ER (kcell (d, some (.xs c))) 1 ∅ 0 ∗ reached ER (kcell (d, some (.xs c))) 1
          ∗ pP d c fullShare.left (pfin m d) ∗ owesS d T) :=
  W_wait1 m K d (.xs c) 0 (by exact fun _ => rfl) Nat.one_pos (by rfl) T hT

/-! ## The rings -/

theorem W_sendAt (d : Dev nD) (c : Fin 4) (j : Hop) (off : Fin 2 → Nat) (h) (e : off = cor c (sb d j)) (T : List Tk)
    {hsc} {hw₁ : (gM off h).view.WordExact} {hw₂ : (gM off h).view.WordExact} {hty} :
    iprop(recs m K ∗ gP d c (sb d j) (shr j) (gfin m d) ∗ lend d (c, j) ∗ tok d (.sn c j) ∗ tok (tgt d j) (.ring c j) ∗ owesS d (.ring c j :: T))
      ⊢ W d (Prog.lift (.enqueueDma (gM off h) (.remote (Dev.tc (tgt d j)) (gM off h) (.dma (snD c j)) hsc) (.dma (rcD c j)) hw₁ hw₂ hty)) fun _ =>
          iprop(cred (tallyAt (kcell (d, some (.sn c j))) () (amt (some (.sn c j)))) ∗ owesS d T) := by
  subst e
  unfold lend gP tok owesS
  iintro ⟨#HR, Hs, ⟨%f, Hd⟩, Ht, Ht', ⟨%Ws, Ho⟩⟩
  ihave #Hi := (inv_at m K (d, some (.sn c j))) $$ HR
  ihave #Hre := (reached_at m K (d, some (.sn c j))) $$ HR
  ihave #Hi' := (inv_at m K (tgt d j, some (.rc c j))) $$ HR
  ihave #Hre' := (reached_at m K (tgt d j, some (.rc c j))) $$ HR
  unfold W Prog.lift
  iapply (Rounds.wp_send_pointsTo 𝒱₀ ER (Rd m) (d : Thread nD τ) none (c' := (tgt d j : Thread nD τ))
      (src := gM (cor c (sb d j)) h) (dst := gM (cor c (sb d j)) h)
      (q := shr j) (fs := gfin m d) (fd := f) (r₁ := 0) (r₂ := 0) (d₁ := 0) (d₂ := 0)
      (κ₁ := K (d, some (.sn c j))) (κ₂ := K (tgt d j, some (.rc c j)))
      (tk_mem m d (.sn c j)) (tk_mem m (tgt d j) (.ring c j)) () () (amt (some (.sn c j))) rfl
      (amount_eq m (d, some (.sn c j)) 0 0) (amount_eq m (tgt d j, some (.rc c j)) 0 0) (owe d T) rfl (W := Ws)
      (by
        refine BIBase.Entails.trans ?_ (Entails.of_eq (payload_eq m (d, some (.sn c j)) 0 0).symm)
        show _ ⊢ gP d c (sb d j) (shr j) (gfin m d)
        unfold gP
        rw [gM_set])
      (by
        refine BIBase.Entails.trans ?_ (Entails.of_eq (payload_eq m (tgt d j, some (.rc c j)) 0 0).symm)
        show _ ⊢ gP (tgt d j) c (rb (tgt d j) j) fullShare (gfin m (tgt d j))
        unfold gP
        rw [View.write_read_eq_piecewise, rb_tgt, gfin_tgt, ← gM_set]
        exact Entails.of_eq (pointsTo_congr fun i hi => Finset.piecewise_eq_of_mem _ _ _ hi))) $$ [Hs Hd Ht Ht' Ho]
  · isplitr; · iexact Hi
    isplitr; · iexact Hi'
    isplitl [Hs]; · rw [gM_set]; iexact Hs
    isplitl [Hd]; · rw [gM_set]; iexact Hd
    isplitl [Ho]; · iexact Ho
    isplitl [Ht]; · iexact Ht
    isplitr; · iexact Hre
    isplitl [Ht']; · iexact Ht'
    iexact Hre'
  iintro ⟨Hc, Ho⟩
  rw [wp_ret]
  imodintro
  isplitl [Hc]; · iexact Hc
  iexists _; iexact Ho

theorem W_sendG (d : Dev nD) (c : Fin 4) (j : Hop) (T : List Tk) :
    iprop(recs m K ∗ gP d c (sb d j) (shr j) (gfin m d) ∗ lend d (c, j) ∗ tok d (.sn c j) ∗ tok (tgt d j) (.ring c j) ∗ owesS d (.ring c j :: T))
      ⊢ W d (sendG d c j) fun _ => iprop(cred (tallyAt (kcell (d, some (.sn c j))) () (amt (some (.sn c j)))) ∗ owesS d T) :=
  W_sendAt m K d c j _ _ (offS_eq c d j) T

theorem W_waitG (d : Dev nD) (c : Fin 4) (j : Hop) (T : List Tk) (hT : ∀ t ∈ T, 10 + hopNo j < klv t.cell) :
    iprop(recs m K ∗ cred (tallyAt (kcell (d, some (.rc c j))) () (amt (some (.rc c j)))) ∗ atPos ER (kcell (d, some (.rc c j))) 0 ∅ 0 ∗ owesS d T)
      ⊢ W d (waitG d c j) fun _ => iprop(atPos ER (kcell (d, some (.rc c j))) 1 ∅ 0 ∗ reached ER (kcell (d, some (.rc c j))) 1
          ∗ gP d c (rb d j) fullShare (gfin m d) ∗ owesS d T) :=
  W_wait1 m K d (.rc c j) 0 (by exact fun _ => rfl) Nat.one_pos (by rfl) T hT

theorem W_drainG (d : Dev nD) (c : Fin 4) (j : Hop) (T : List Tk) (hT : ∀ t ∈ T, 0 < klv t.cell) :
    iprop(recs m K ∗ cred (tallyAt (kcell (d, some (.sn c j))) () (amt (some (.sn c j)))) ∗ atPos ER (kcell (d, some (.sn c j))) 0 ∅ 0 ∗ owesS d T)
      ⊢ W d (drainG d c j) fun _ => iprop(atPos ER (kcell (d, some (.sn c j))) 1 ∅ 0 ∗ reached ER (kcell (d, some (.sn c j))) 1
          ∗ gP d c (sb d j) (shr j) (gfin m d) ∗ owesS d T) :=
  W_wait1 m K d (.sn c j) 0 (by exact fun _ => rfl) Nat.one_pos (by rfl) T hT

/-! ## The loads and stores -/

omit [FloatOps F] in
/-- Storing what is read there makes the block what the array says. -/
theorem stored {sp : Space} {s : Shape} {e : EltTy} (d : Dev nD) (v : View sig .tc sp s e) (S : Finset _) (hS : v.set = S)
    (q : PosShare TreeShare) (f g : Buf (Elt F) (v.loc (d : Thread nD τ))) :
    (v.loc (d : Thread nD τ) ↦[S]{q} v.write (Elt F) f (v.read (Elt F) g) Finset.univ : sProp 𝕄) ⊢ v.loc (d : Thread nD τ) ↦[S]{q} g := by
  subst hS
  rw [View.write_read_eq_piecewise]
  exact Entails.of_eq (pointsTo_congr fun i hi => Finset.piecewise_eq_of_mem _ _ _ hi)

/-- A load of a whole rectangle, from any elements that include it. -/
theorem W_load {cs : CoreSpace} {s : Shape} {e : EltTy} (d : Dev nD) (b : Memref sig .tc cs s e) (r : Rect s) {hl : b.view.LoadsAt r.toLoadRect}
    (S : Finset (Idx ((b.access r).loc (d : Thread nD τ)))) (q : PosShare TreeShare) (f : Buf (Elt F) ((b.access r).loc (d : Thread nD τ)))
    (hS : (b.access r).set = S) :
    ((b.access r).loc (d : Thread nD τ) ↦[S]{q} f : sProp 𝕄)
      ⊢ W d (Prog.lift (.load b r.toLoadRect hl)) fun x => iprop(⌜x = (b.access r).read (Elt F) f⌝ ∗ (b.access r).loc (d : Thread nD τ) ↦[S]{q} f) := by
  iintro H
  unfold W Prog.lift
  iapply (wp_load_rect 𝒱₀ (d : Thread nD τ) none Set.univ (m := b) (r := r) hS.subset) $$ H
  iintro H
  rw [wp_ret]
  imodintro
  isplitr; · ipureintro; rfl
  iexact H

/-- A store of what an array says. -/
theorem W_store {cs : CoreSpace} {s : Shape} {e : EltTy} (d : Dev nD) (b : Memref sig .tc cs s e) (r : Rect s) (w : Vec F r.shape e)
    {hx : (b.access r).Stores Finset.univ} {hm : Finset.univ = Finset.univ ∨ ∀ a, r.stride a = 1}
    (S : Finset (Idx ((b.access r).loc (d : Thread nD τ)))) (f g : Buf (Elt F) ((b.access r).loc (d : Thread nD τ)))
    (hS : (b.access r).set = S) (hw : w = (b.access r).read (Elt F) g) :
    ((b.access r).loc (d : Thread nD τ) ↦[S]{fullShare} f : sProp 𝕄)
      ⊢ W d (Prog.lift (.store b r w Finset.univ hx hm)) fun _ => iprop((b.access r).loc (d : Thread nD τ) ↦[S]{fullShare} g) := by
  subst hw
  iintro H
  unfold W Prog.lift
  iapply (wp_store 𝒱₀ (d : Thread nD τ) none Set.univ (m := b) (r := r) (hx := hx) (hm := hm) (Mk := Finset.univ) hS.subset) $$ H
  iintro H
  rw [wp_ret]
  imodintro
  iapply (stored d (b.access r) S hS fullShare f g) $$ H

theorem emb_all {s : Shape} {off : Fin s.rank → Nat} (h : ∀ a, off a + s.size a ≤ s.size a) (x : s.Idx) : (Rect.unit (s := s) off s.size h).emb x = x := by
  funext a
  refine Fin.ext ?_
  rw [Rect.emb_apply]
  have := h a
  show off a + 1 * _ = _
  omega

theorem set_all {s : Shape} {off : Fin s.rank → Nat} (h : ∀ a, off a + s.size a ≤ s.size a) : (Rect.unit (s := s) off s.size h).set = Finset.univ :=
  Finset.eq_univ_iff_forall.mpr fun x => Rect.mem_set_unit.mpr fun a => by have := h a; have := (x a).isLt; omega

theorem W_mul (d : Dev nD) (c : Fin 4) :
    iprop(dP d (dyv m d) ∗ wP d (wv m d c) ∗ (∃ f, pP d c fullShare f))
      ⊢ W d (mul c) fun _ => iprop(dP d (dyv m d) ∗ wP d (wv m d c) ∗ pP d c fullShare (pfin m d)) := by
  unfold dP wP pP mul
  iintro ⟨Hd, Hw, ⟨%f, Hp⟩⟩
  iapply (W_seq (W_load d dB (Rect.unit (s := S128x8192) ![0, 0] S128x8192.size inb_S128x8192_S128x8192_0_0) Finset.univ fullShare (dyv m d)
    ((View.set_slice_whole _ _).trans (set_all _)))) $$ Hd
  iintro %a ⟨%ha, Hd⟩
  iapply (W_seq (W_load d wB (Rect.unit (s := S512x8192) ![0, 0] S512x8192.size inb_S512x8192_S512x8192_0_0) Finset.univ fullShare (wv m d c)
    ((View.set_slice_whole _ _).trans (set_all _)))) $$ Hw
  iintro %b ⟨%hb, Hw⟩
  iapply (W_seq (W_load d pB (pRect c) (pset c) fullShare f (pA_set c))) $$ Hp
  iintro %z ⟨-, Hp⟩
  have ea : a = dyv m d := ha.trans (funext fun x => congrArg (dyv m d) (emb_all _ x))
  have eb : b = wv m d c := hb.trans (funext fun x => congrArg (wv m d c) (emb_all _ x))
  subst ea eb
  iapply (wp_wand frame (wpE (defs₀ (F := F)) 𝒱₀ (d : Thread nD τ) none) Set.univ) $$ [Hp]
  · iapply (W_store d pB (pRect c) (k0_pay1 (dyv m d) (wv m d c)) (pset c) f (pfin m d) (pA_set c) (read_p c (pv m d)).symm) $$ Hp
  iintro %_ Hp
  isplitl [Hd]; · iexact Hd
  isplitl [Hw]; · iexact Hw
  iexact Hp

theorem W_redG (d : Dev nD) (c : Fin 4) :
    iprop(pP d c fullShare.right (pfin m d) ∗ xP d c (pfin m (xp d)) ∗ (∃ f, gP d c (pos d) fullShare f))
      ⊢ W d (redG d c) fun v => iprop(⌜v = rd m d c⌝ ∗ pP d c fullShare.right (pfin m d) ∗ xP d c (pfin m (xp d)) ∗ gP d c (pos d) fullShare (gfin m d)) := by
  have key : ∀ (off : Fin 2 → Nat) (h : ∀ a, off a + S128x512.size a ≤ S2048x2048.size a), off = cor c (pos d) →
      (gB.access (blk off h)).set = bset (c, pos d) ∧ (gB.access (blk off h)).read (Elt F) (gfin m d) = gv m d c := by
    rintro off h rfl
    exact ⟨View.set_slice_whole _ _, (read_g c (pos d) _).trans (by rw [at_pos])⟩
  obtain ⟨k1, k2⟩ := key _ (offP_inb c d) (offP_eq c d)
  unfold pP xP gP redG
  iintro ⟨Hp, Hx, ⟨%f, Hg⟩⟩
  iapply (W_seq (W_load d pB (pRect c) (pset c) fullShare.right (pfin m d) (pA_set c))) $$ Hp
  iintro %a ⟨%ha, Hp⟩
  iapply (W_seq (W_load d xB (pRect c) (pset c) fullShare (pfin m (xp d)) (xA_set c))) $$ Hx
  iintro %b ⟨%hb, Hx⟩
  iapply (W_seq (W_load d gB (blk (offP c d) (offP_inb c d)) (bset (c, pos d)) fullShare f k1)) $$ Hg
  iintro %z ⟨-, Hg⟩
  have ea : a = pv m d c := ha.trans (read_p c _)
  have eb : b = pv m (xp d) c := hb.trans (read_x c _)
  subst ea eb
  iapply (W_seq (W_store d gB (blk (offP c d) (offP_inb c d)) (k0_pay4 (pv m d c) (pv m (xp d) c)) (bset (c, pos d)) f (gfin m d) k1 k2.symm)) $$ Hg
  iintro %_ Hg
  iapply (W_ret (d := d) (k0_pay3 (pv m d c) (pv m (xp d) c)))
  isplitr; · ipureintro; rfl
  isplitl [Hp]; · iexact Hp
  isplitl [Hx]; · iexact Hx
  iexact Hg

theorem W_putO (d : Dev nD) (c : Fin 4) (o : Fin 16) (off) (h) (e : off = cor c o) (v : Vec F S128x512 .f32) (hv : v = ov m d c o) :
    iprop(∃ f, oP d c o f) ⊢ W d (putO off h v) fun _ => (oP d c o (ofin m d) : sProp 𝕄) := by
  subst e hv
  unfold oP putO
  iintro ⟨%f, H⟩
  iapply (W_seq (W_load d oB (blk (cor c o) h) (bset (c, o)) fullShare f (oM_set c o))) $$ H
  iintro %z ⟨-, H⟩
  iapply (W_store d oB (blk (cor c o) h) (ov m d c o) (bset (c, o)) f (ofin m d) (oM_set c o) (read_o c o _).symm) $$ H

theorem W_relay (d : Dev nD) (c : Fin 4) (j : Hop) (q : PosShare TreeShare) :
    iprop(gP d c (rb d j) q (gfin m d) ∗ (∃ f, oP d c (rb d j) f))
      ⊢ W d (relay d c j) fun _ => iprop(gP d c (rb d j) q (gfin m d) ∗ oP d c (rb d j) (ofin m d)) := by
  have key : ∀ (off : Fin 2 → Nat) (h : ∀ a, off a + S128x512.size a ≤ S2048x2048.size a), off = cor c (rb d j) →
      (gB.access (blk off h)).set = bset (c, rb d j) ∧ (gB.access (blk off h)).read (Elt F) (gfin m d) = gv m (at' d (rb d j)) c := by
    rintro off h rfl
    exact ⟨View.set_slice_whole _ _, read_g c (rb d j) _⟩
  obtain ⟨k1, k2⟩ := key _ (offR_inb c d j) (offR_eq c d j)
  unfold relay gP
  iintro ⟨Hg, Ho⟩
  iapply (W_seq (W_load d gB (blk (offR c d j) (offR_inb c d j)) (bset (c, rb d j)) q (gfin m d) k1)) $$ Hg
  iintro %a ⟨%ha, Hg⟩
  have ea : a = gv m (at' d (rb d j)) c := ha.trans k2
  subst ea
  iapply (wp_wand frame (wpE (defs₀ (F := F)) 𝒱₀ (d : Thread nD τ) none) Set.univ) $$ [Ho]
  · iapply (W_putO m d c (rb d j) (offR c d j) (offR_inb c d j) (offR_eq c d j) _ (by unfold ov; rw [if_neg (rb_ne_pos d j)])) $$ Ho
  iintro %_ Ho
  isplitl [Hg]; · iexact Hg
  iexact Ho

end Cert.KernelIdeal.Ring

end
-- ==== Proof.Hops.lean ====
/- The hops of the rings: every received block is sent on and put into the result, then every copy is waited for. -/
module

public import proofs.«01_k».proof.Proof.Steps
public import Idealize.ShloMosaic.Lib.Pipeline.BigSepL

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## A program for each member of a list -/

/-- Every member's wait is below what is still owed after the member's own payments. -/
def Fits {α : Type} (lvl : α → ℕ) (pays : α → List Tk) : List α → List Tk → Prop
  | [], _ => True
  | a :: l, T => (∀ t ∈ l.flatMap pays ++ T, lvl a < klv t.cell) ∧ Fits lvl pays l T

instance Fits.dec {α : Type} (lvl : α → ℕ) (pays : α → List Tk) : ∀ (l : List α) (T : List Tk), Decidable (Fits lvl pays l T)
  | [], _ => .isTrue trivial
  | a :: l, T => @instDecidableAnd _ _ (inferInstance : Decidable (∀ t ∈ l.flatMap pays ++ T, lvl a < klv t.cell)) (Fits.dec lvl pays l T)

theorem W_each {α : Type} (d : Dev nD) (f : α → PG F PUnit) (Pre Post : α → sProp 𝕄) (lvl : α → ℕ) (pays : α → List Tk)
    (hf : ∀ (a : α) (T : List Tk), (∀ t ∈ T, lvl a < klv t.cell) →
      iprop(recs m K ∗ Pre a ∗ owesS d (pays a ++ T)) ⊢ W d (f a) fun _ => iprop(Post a ∗ owesS d T)) :
    ∀ (l : List α) (T : List Tk), Fits lvl pays l T →
      iprop(recs m K ∗ bigSepL l Pre ∗ owesS d (l.flatMap pays ++ T)) ⊢ W d (each f l) fun _ => iprop(bigSepL l Post ∗ owesS d T)
  | [], T, _ => by
    rw [bigSepL_nil, bigSepL_nil]
    iintro ⟨-, Hp, Ho⟩
    iapply (W_ret (d := d) (⟨⟩ : PUnit))
    isplitl [Hp]; · iexact Hp
    iexact Ho
  | a :: l, T, h => by
    rw [bigSepL_cons', bigSepL_cons', List.flatMap_cons, List.append_assoc]
    iintro ⟨#HR, ⟨Ha, Hl⟩, Ho⟩
    unfold each
    iapply (W_seq (hf a (l.flatMap pays ++ T) h.1)) $$ [Ha Ho]
    · isplitr; · iexact HR
      isplitl [Ha] <;> iassumption
    iintro %_ ⟨Ha, Ho⟩
    iapply (wp_wand frame (wpE (defs₀ (F := F)) 𝒱₀ (d : Thread nD τ) none) Set.univ) $$ [Hl Ho]
    · iapply (W_each d f Pre Post lvl pays hf l T h.2)
      isplitr; · iexact HR
      isplitl [Hl] <;> iassumption
    iintro %_ ⟨Hl, Ho⟩
    isplitr [Ho]
    · isplitl [Ha] <;> iassumption
    iexact Ho

/-! ## What the hops hold -/

/-- The credit for what a hop delivers here, and where its block of the result goes. -/
def hopIn (d : Dev nD) (c : Fin 4) (j : Hop) : sProp 𝕄 :=
  iprop(cred (tallyAt (kcell (d, some (.rc c j))) () (amt (some (.rc c j)))) ∗ atPos ER (kcell (d, some (.rc c j))) 0 ∅ 0 ∗ ∃ f, oP d c (rb d j) f)
/-- What a hop's copy needs besides its block. -/
def sendIn (d : Dev nD) (c : Fin 4) (j : Hop) : sProp 𝕄 :=
  iprop(lend d (c, j) ∗ tok d (.sn c j) ∗ tok (tgt d j) (.ring c j))
/-- The credit for the end of a hop's copy. -/
def sentC (d : Dev nD) (c : Fin 4) (j : Hop) : sProp 𝕄 := cred (tallyAt (kcell (d, some (.sn c j))) () (amt (some (.sn c j))))
/-- A hop done: the share of the received block that was not sent on, and the block in the result. -/
def hopOut (d : Dev nD) (c : Fin 4) (j : Hop) (q : PosShare TreeShare) : sProp 𝕄 :=
  iprop(atPos ER (kcell (d, some (.rc c j))) 1 ∅ 0 ∗ gP d c (rb d j) q (gfin m d) ∗ oP d c (rb d j) (ofin m d))

theorem gP_halves (d c o f) : gP (F := F) d c o fullShare f ⊣⊢ iprop(gP d c o fullShare.left f ∗ gP d c o fullShare.right f) := by
  unfold gP; exact pointsTo_share (PosShare.mem_left_op_right fullShare)
theorem pP_halves (d c f) : pP (F := F) d c fullShare f ⊣⊢ iprop(pP d c fullShare.left f ∗ pP d c fullShare.right f) := by
  unfold pP; exact pointsTo_share (PosShare.mem_left_op_right fullShare)

theorem shr_next : ∀ j j' : Hop, next j = some j' → shr j' = fullShare.left
  | _, .inl _, _ => rfl
  | j, .inr h, e => by
    have h0 : h ≠ 0 := by
      rintro rfl
      exact (by decide : ∀ j : Hop, next j ≠ some (.inr 0)) j e
    show (if h = 0 then _ else _) = _
    rw [if_neg h0]

/-- Receiving a block. -/
theorem W_recv (d : Dev nD) (c : Fin 4) (j : Hop) (T : List Tk) (hT : ∀ t ∈ T, 10 + hopNo j < klv t.cell) :
    iprop(recs m K ∗ hopIn d c j ∗ owesS d T)
      ⊢ W d (waitG d c j) fun _ => iprop((atPos ER (kcell (d, some (.rc c j))) 1 ∅ 0 ∗ ∃ f, oP d c (rb d j) f) ∗ gP d c (rb d j) fullShare (gfin m d) ∗ owesS d T) := by
  unfold hopIn
  iintro ⟨#HR, ⟨Hc, Ha, Hout⟩, Ho⟩
  iapply (wp_wand frame (wpE (defs₀ (F := F)) 𝒱₀ (d : Thread nD τ) none) Set.univ) $$ [Hc Ha Ho]
  · iapply (W_waitG m K d c j T hT)
    isplitr; · iexact HR
    isplitl [Hc]; · iexact Hc
    isplitl [Ha] <;> iassumption
  iintro %_ ⟨Ha, -, Hg, Ho⟩
  isplitl [Ha Hout]
  · isplitl [Ha] <;> iassumption
  isplitl [Hg] <;> iassumption

/-- Sending on the half of a received block. -/
theorem W_pass (d : Dev nD) (c : Fin 4) (j j' : Hop) (hj : next j = some j') (T : List Tk) :
    iprop(recs m K ∗ gP d c (rb d j) fullShare (gfin m d) ∗ sendIn d c j' ∗ owesS d (.ring c j' :: T))
      ⊢ W d (sendG d c j') fun _ => iprop(gP d c (rb d j) fullShare.right (gfin m d) ∗ sentC d c j' ∗ owesS d T) := by
  unfold sendIn sentC
  iintro ⟨#HR, Hg, ⟨H1, H2, H3⟩, Ho⟩
  ihave Hg := (gP_halves d c (rb d j) (gfin m d)).1 $$ Hg
  icases Hg with ⟨Hl, Hr⟩
  iapply (wp_wand frame (wpE (defs₀ (F := F)) 𝒱₀ (d : Thread nD τ) none) Set.univ) $$ [Hl H1 H2 H3 Ho]
  · iapply (W_sendG m K d c j' T)
    isplitr; · iexact HR
    isplitl [Hl]
    · rw [sb_next d j j' hj, shr_next j j' hj]; iexact Hl
    isplitl [H1]; · iexact H1
    isplitl [H2]; · iexact H2
    isplitl [H3] <;> iassumption
  iintro %_ ⟨Hc, Ho⟩
  isplitl [Hr]; · iexact Hr
  isplitl [Hc] <;> iassumption

/-- Putting a received block into the result. -/
theorem W_put (d : Dev nD) (c : Fin 4) (j : Hop) (q : PosShare TreeShare) :
    iprop((atPos ER (kcell (d, some (.rc c j))) 1 ∅ 0 ∗ ∃ f, oP d c (rb d j) f) ∗ gP d c (rb d j) q (gfin m d))
      ⊢ W d (relay d c j) fun _ => hopOut m d c j q := by
  unfold hopOut
  iintro ⟨⟨Ha, Hout⟩, Hg⟩
  iapply (wp_wand frame (wpE (defs₀ (F := F)) 𝒱₀ (d : Thread nD τ) none) Set.univ) $$ [Hout Hg]
  · iapply (W_relay m d c j q)
    isplitl [Hg] <;> iassumption
  iintro %_ ⟨Hg, Hout⟩
  isplitl [Ha]; · iexact Ha
  isplitl [Hg] <;> iassumption

/-! ## The loops' bodies -/

def hopPre (d : Dev nD) (a : Fin 6 × Fin 4) : sProp 𝕄 :=
  iprop(hopIn d a.2 (.inl ⟨a.1.val, by omega⟩) ∗ sendIn d a.2 (.inl ⟨a.1.val + 1, by omega⟩)
    ∗ hopIn d a.2 (.inr ⟨a.1.val, by omega⟩) ∗ sendIn d a.2 (.inr ⟨a.1.val + 1, by omega⟩))
def hopPost (d : Dev nD) (a : Fin 6 × Fin 4) : sProp 𝕄 :=
  iprop(hopOut m d a.2 (.inl ⟨a.1.val, by omega⟩) fullShare.right ∗ sentC d a.2 (.inl ⟨a.1.val + 1, by omega⟩)
    ∗ hopOut m d a.2 (.inr ⟨a.1.val, by omega⟩) fullShare.right ∗ sentC d a.2 (.inr ⟨a.1.val + 1, by omega⟩))

theorem W_hop (d : Dev nD) (a : Fin 6 × Fin 4) (T : List Tk) (hT : ∀ t ∈ T, 10 + a.1.val < klv t.cell) :
    iprop(recs m K ∗ hopPre d a ∗ owesS d (hopPays a ++ T)) ⊢ W d (hop d a) fun _ => iprop(hopPost m d a ∗ owesS d T) := by
  obtain ⟨h, c⟩ := a
  have hT' : ∀ (j : Hop), 10 + h.val < 10 + hopNo j → ∀ t ∈ (Tk.ring c j :: T), 10 + h.val < klv t.cell := by
    intro j hj t ht
    rcases List.mem_cons.mp ht with rfl | ht
    · exact hj
    · exact hT t ht
  have nl : next (.inl ⟨h.val, by omega⟩) = some (.inl ⟨h.val + 1, by omega⟩) := dif_pos (by show h.val + 1 < 8; omega)
  have nr : next (.inr ⟨h.val, by omega⟩) = some (.inr ⟨h.val + 1, by omega⟩) := dif_pos (by show h.val + 1 < 7; omega)
  have h8 : h.val < 8 := by omega
  have h7 : h.val < 7 := by omega
  unfold hopPre hop
  iintro ⟨#HR, ⟨Hi1, Hs1, Hi2, Hs2⟩, Ho⟩
  iapply (W_seq (W_recv m K d c (.inl ⟨h.val, h8⟩) (hopPays (h, c) ++ T) (by
    intro t ht
    rcases List.mem_cons.mp ht with rfl | ht
    · show 10 + h.val < 10 + (h.val + 1); omega
    · exact hT' (.inr ⟨h.val + 1, by omega⟩) (by show 10 + h.val < 10 + (h.val + 1); omega) t ht))) $$ [Hi1 Ho]
  · isplitr; · iexact HR
    isplitl [Hi1] <;> iassumption
  iintro %_ ⟨Hi1, Hg1, Ho⟩
  iapply (W_seq (W_pass m K d c _ _ nl (Tk.ring c (.inr ⟨h.val + 1, by omega⟩) :: T))) $$ [Hg1 Hs1 Ho]
  · isplitr; · iexact HR
    isplitl [Hg1]; · iexact Hg1
    isplitl [Hs1]; · iexact Hs1
    iexact Ho
  iintro %_ ⟨Hg1, Hc1, Ho⟩
  iapply (W_seq (W_recv m K d c (.inr ⟨h.val, h7⟩) (Tk.ring c (.inr ⟨h.val + 1, by omega⟩) :: T)
    (hT' _ (by show 10 + h.val < 10 + (h.val + 1); omega)))) $$ [Hi2 Ho]
  · isplitr; · iexact HR
    isplitl [Hi2] <;> iassumption
  iintro %_ ⟨Hi2, Hg2, Ho⟩
  iapply (W_seq (W_pass m K d c _ _ nr T)) $$ [Hg2 Hs2 Ho]
  · isplitr; · iexact HR
    isplitl [Hg2]; · iexact Hg2
    isplitl [Hs2] <;> iassumption
  iintro %_ ⟨Hg2, Hc2, Ho⟩
  iapply (W_seq (W_put m d c (.inl ⟨h.val, h8⟩) fullShare.right)) $$ [Hi1 Hg1]
  · isplitl [Hi1] <;> iassumption
  iintro %_ Hi1
  iapply (wp_wand frame (wpE (defs₀ (F := F)) 𝒱₀ (d : Thread nD τ) none) Set.univ) $$ [Hi2 Hg2]
  · iapply (W_put m d c (.inr ⟨h.val, h7⟩) fullShare.right)
    isplitl [Hi2] <;> iassumption
  iintro %_ Hi2
  unfold hopPost
  isplitr [Ho]
  · isplitl [Hi1]; · iexact Hi1
    isplitl [Hc1]; · iexact Hc1
    isplitl [Hi2] <;> iassumption
  iexact Ho

def hop6Pre (d : Dev nD) (c : Fin 4) : sProp 𝕄 := iprop(hopIn d c (.inl 6) ∗ sendIn d c (.inl 7) ∗ hopIn d c (.inr 6))
def hop6Post (d : Dev nD) (c : Fin 4) : sProp 𝕄 :=
  iprop(hopOut m d c (.inl 6) fullShare.right ∗ sentC d c (.inl 7) ∗ hopOut m d c (.inr 6) fullShare)

theorem W_hop6 (d : Dev nD) (c : Fin 4) (T : List Tk) (hT : ∀ t ∈ T, 16 < klv t.cell) :
    iprop(recs m K ∗ hop6Pre d c ∗ owesS d (hop6Pays c ++ T)) ⊢ W d (hop6 d c) fun _ => iprop(hop6Post m d c ∗ owesS d T) := by
  unfold hop6Pre hop6
  iintro ⟨#HR, ⟨Hi1, Hs1, Hi2⟩, Ho⟩
  iapply (W_seq (W_recv m K d c (.inl 6) (hop6Pays c ++ T) (by
    intro t ht
    rcases List.mem_cons.mp ht with rfl | ht
    · show 16 < 17; decide
    · exact hT t ht))) $$ [Hi1 Ho]
  · isplitr; · iexact HR
    isplitl [Hi1] <;> iassumption
  iintro %_ ⟨Hi1, Hg1, Ho⟩
  iapply (W_seq (W_pass m K d c (.inl 6) (.inl 7) (by decide) T)) $$ [Hg1 Hs1 Ho]
  · isplitr; · iexact HR
    isplitl [Hg1]; · iexact Hg1
    isplitl [Hs1]; · iexact Hs1
    iexact Ho
  iintro %_ ⟨Hg1, Hc1, Ho⟩
  iapply (W_seq (W_recv m K d c (.inr 6) T hT)) $$ [Hi2 Ho]
  · isplitr; · iexact HR
    isplitl [Hi2] <;> iassumption
  iintro %_ ⟨Hi2, Hg2, Ho⟩
  iapply (W_seq (W_put m d c (.inl 6) fullShare.right)) $$ [Hi1 Hg1]
  · isplitl [Hi1] <;> iassumption
  iintro %_ Hi1
  iapply (wp_wand frame (wpE (defs₀ (F := F)) 𝒱₀ (d : Thread nD τ) none) Set.univ) $$ [Hi2 Hg2]
  · iapply (W_put m d c (.inr 6) fullShare)
    isplitl [Hi2] <;> iassumption
  iintro %_ Hi2
  unfold hop6Post
  isplitr [Ho]
  · isplitl [Hi1]; · iexact Hi1
    isplitl [Hc1] <;> iassumption
  iexact Ho

theorem W_hop7 (d : Dev nD) (c : Fin 4) (T : List Tk) (hT : ∀ t ∈ T, 17 < klv t.cell) :
    iprop(recs m K ∗ hopIn d c (.inl 7) ∗ owesS d ([] ++ T)) ⊢ W d (hop7 d c) fun _ => iprop(hopOut m d c (.inl 7) fullShare ∗ owesS d T) := by
  unfold hop7
  rw [List.nil_append]
  iintro ⟨#HR, Hi, Ho⟩
  iapply (W_seq (W_recv m K d c (.inl 7) T hT)) $$ [Hi Ho]
  · isplitr; · iexact HR
    isplitl [Hi] <;> iassumption
  iintro %_ ⟨Hi, Hg, Ho⟩
  iapply (wp_wand frame (wpE (defs₀ (F := F)) 𝒱₀ (d : Thread nD τ) none) Set.univ) $$ [Hi Hg]
  · iapply (W_put m d c (.inl 7) fullShare)
    isplitl [Hi] <;> iassumption
  iintro %_ Hi
  isplitl [Hi] <;> iassumption

/-- A copy that is still to be waited for at its source, and one that has been. -/
def drainIn (d : Dev nD) (c : Fin 4) (j : Hop) : sProp 𝕄 := iprop(sentC d c j ∗ atPos ER (kcell (d, some (.sn c j))) 0 ∅ 0)
def drainOut (d : Dev nD) (c : Fin 4) (j : Hop) : sProp 𝕄 := iprop(atPos ER (kcell (d, some (.sn c j))) 1 ∅ 0 ∗ gP d c (sb d j) (shr j) (gfin m d))

theorem W_drain1 (d : Dev nD) (c : Fin 4) (j : Hop) (T : List Tk) (hT : ∀ t ∈ T, 0 < klv t.cell) :
    iprop(recs m K ∗ drainIn d c j ∗ owesS d ([] ++ T)) ⊢ W d (drainG d c j) fun _ => iprop(drainOut m d c j ∗ owesS d T) := by
  unfold drainIn sentC drainOut
  rw [List.nil_append]
  iintro ⟨#HR, ⟨Hc, Ha⟩, Ho⟩
  iapply (wp_wand frame (wpE (defs₀ (F := F)) 𝒱₀ (d : Thread nD τ) none) Set.univ) $$ [Hc Ha Ho]
  · iapply (W_drainG m K d c j T hT)
    isplitr; · iexact HR
    isplitl [Hc]; · iexact Hc
    isplitl [Ha] <;> iassumption
  iintro %_ ⟨Ha, -, Hg, Ho⟩
  isplitl [Ha Hg]
  · isplitl [Ha] <;> iassumption
  iexact Ho

def drainPre (d : Dev nD) (c : Fin 4) : sProp 𝕄 :=
  iprop((cred (tallyAt (kcell (d, some (.xs c))) () (amt (some (.xs c)))) ∗ atPos ER (kcell (d, some (.xs c))) 0 ∅ 0) ∗ bigSep Finset.univ (drainIn d c))
def drainPost (d : Dev nD) (c : Fin 4) : sProp 𝕄 :=
  iprop((atPos ER (kcell (d, some (.xs c))) 1 ∅ 0 ∗ pP d c fullShare.left (pfin m d)) ∗ bigSep Finset.univ (drainOut m d c))

theorem hopList_all (Φ : Hop → sProp 𝕄) : bigSep Finset.univ Φ = bigSepL hopList Φ :=
  bigSep_univ_eq_bigSepL hopList (by decide +kernel) (by decide +kernel) Φ

theorem W_drain (d : Dev nD) (c : Fin 4) (T : List Tk) (hT : ∀ t ∈ T, 0 < klv t.cell) :
    iprop(recs m K ∗ drainPre d c ∗ owesS d ([] ++ T)) ⊢ W d (drain d c) fun _ => iprop(drainPost m d c ∗ owesS d T) := by
  have fits : ∀ l : List Hop, Fits (fun _ => 0) (fun _ => []) l T := by
    intro l
    induction l with
    | nil => exact trivial
    | cons a l ih => exact ⟨by rw [show l.flatMap (fun _ => ([] : List Tk)) = [] from by simp]; exact hT, ih⟩
  unfold drainPre drainPost drain
  rw [List.nil_append, hopList_all, hopList_all]
  iintro ⟨#HR, ⟨⟨Hc, Ha⟩, Hd⟩, Ho⟩
  iapply (W_seq (W_drainX m K d c T hT)) $$ [Hc Ha Ho]
  · isplitr; · iexact HR
    isplitl [Hc]; · iexact Hc
    isplitl [Ha] <;> iassumption
  iintro %_ ⟨Ha, -, Hp, Ho⟩
  iapply (wp_wand frame (wpE (defs₀ (F := F)) 𝒱₀ (d : Thread nD τ) none) Set.univ) $$ [Hd Ho]
  · iapply (W_each m K d (drainG d c) (drainIn d c) (drainOut m d c) (fun _ => 0) (fun _ => []) (W_drain1 m K d c) hopList T (fits _))
    isplitr; · iexact HR
    isplitl [Hd]; · iexact Hd
    iexact Ho
  iintro %_ ⟨Hd, Ho⟩
  isplitr [Ho]
  · isplitl [Ha Hp]
    · isplitl [Ha] <;> iassumption
    iexact Hd
  iexact Ho

/-! ## The loops' lists -/

theorem four_all (Φ : Fin 4 → sProp 𝕄) : bigSep Finset.univ Φ = bigSepL [0, 1, 2, 3] Φ :=
  bigSep_univ_eq_bigSepL [0, 1, 2, 3] (by decide) (by decide) Φ
theorem hops_all (Φ : Fin 6 × Fin 4 → sProp 𝕄) : bigSepL hops Φ = bigSep Finset.univ fun c => bigSep Finset.univ fun h => Φ (h, c) := by
  rw [← bigSep_univ_eq_bigSepL hops (by decide +kernel) (by decide +kernel) Φ, bigSep_univ_prod, bigSep_univ_comm]

theorem fits_hops : Fits (fun a : Fin 6 × Fin 4 => 10 + a.1.val) hopPays hops ([0, 1, 2, 3].flatMap hop6Pays) := by decide +kernel
theorem fits_hop6 : Fits (fun _ : Fin 4 => 16) hop6Pays [0, 1, 2, 3] [] := by decide +kernel
theorem fits_hop7 : Fits (fun _ : Fin 4 => 17) (fun _ => []) [0, 1, 2, 3] [] := by decide +kernel
theorem fits_drain : Fits (fun _ : Fin 4 => 0) (fun _ => []) [0, 1, 2, 3] [] := by decide +kernel

end Cert.KernelIdeal.Ring

end
-- ==== Proof.Tail.lean ====
/- The tail: the resources of a column chunk dealt to the hops, and gathered after the drain. -/
module

public import proofs.«01_k».proof.Proof.Hops

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## Families over the hops -/

section Families

variable {M : Type} [URA M]

abbrev h8 (h : Fin 6) : Fin 8 := ⟨h.val, by omega⟩
abbrev h8s (h : Fin 7) : Fin 8 := ⟨h.val + 1, by omega⟩
abbrev h7 (h : Fin 6) : Fin 7 := ⟨h.val, by omega⟩
abbrev h7s (h : Fin 6) : Fin 7 := ⟨h.val + 1, by omega⟩

theorem six_all (Φ : Fin 6 → sProp M) : bigSep Finset.univ Φ = bigSepL [0, 1, 2, 3, 4, 5] Φ :=
  bigSep_univ_eq_bigSepL [0, 1, 2, 3, 4, 5] (by decide) (by decide) Φ
theorem seven_all (Φ : Fin 7 → sProp M) : bigSep Finset.univ Φ = bigSepL [0, 1, 2, 3, 4, 5, 6] Φ :=
  bigSep_univ_eq_bigSepL [0, 1, 2, 3, 4, 5, 6] (by decide) (by decide) Φ
theorem fin8_last (Φ : Fin 8 → sProp M) : bigSep Finset.univ Φ = iprop((bigSep Finset.univ fun h : Fin 6 => Φ (h8 h)) ∗ Φ 6 ∗ Φ 7) := by
  rw [bigSep_univ_eq_bigSepL ([0, 1, 2, 3, 4, 5].map h8 ++ [6, 7]) (by decide) (by decide) Φ, bigSepL_append, bigSepL_map, six_all]; rfl
theorem fin8_first (Φ : Fin 8 → sProp M) : bigSep Finset.univ Φ = iprop((bigSep Finset.univ fun h : Fin 7 => Φ (h8s h)) ∗ Φ 0) := by
  rw [bigSep_univ_eq_bigSepL ([0, 1, 2, 3, 4, 5, 6].map h8s ++ [0]) (by decide) (by decide) Φ, bigSepL_append, bigSepL_map, seven_all]; rfl
theorem fin7_last (Φ : Fin 7 → sProp M) : bigSep Finset.univ Φ = iprop((bigSep Finset.univ fun h : Fin 6 => Φ (h7 h)) ∗ Φ 6) := by
  rw [bigSep_univ_eq_bigSepL ([0, 1, 2, 3, 4, 5].map h7 ++ [6]) (by decide) (by decide) Φ, bigSepL_append, bigSepL_map, six_all]; rfl
theorem fin7_first (Φ : Fin 7 → sProp M) : bigSep Finset.univ Φ = iprop((bigSep Finset.univ fun h : Fin 6 => Φ (h7s h)) ∗ Φ 0) := by
  rw [bigSep_univ_eq_bigSepL ([0, 1, 2, 3, 4, 5].map h7s ++ [0]) (by decide) (by decide) Φ, bigSepL_append, bigSepL_map, six_all]; rfl

theorem hop_last (Φ : Hop → sProp M) : bigSep Finset.univ Φ
    = iprop(((bigSep Finset.univ fun h : Fin 6 => Φ (.inl (h8 h))) ∗ Φ (.inl 6) ∗ Φ (.inl 7)) ∗ (bigSep Finset.univ fun h : Fin 6 => Φ (.inr (h7 h))) ∗ Φ (.inr 6)) := by
  rw [bigSep_univ_sum, fin8_last, fin7_last]; rfl
theorem hop_first (Φ : Hop → sProp M) : bigSep Finset.univ Φ
    = iprop((((bigSep Finset.univ fun h : Fin 6 => Φ (.inl (h8s (h7 h)))) ∗ Φ (.inl 7)) ∗ Φ (.inl 0)) ∗ (bigSep Finset.univ fun h : Fin 6 => Φ (.inr (h7s h))) ∗ Φ (.inr 0)) := by
  rw [bigSep_univ_sum, fin8_first, fin7_last, fin7_first]; rfl
theorem opt_all {I : Type} [Fintype I] [DecidableEq I] (Φ : Option I → sProp M) : bigSep Finset.univ Φ = iprop((bigSep Finset.univ fun j => Φ (some j)) ∗ Φ none) := by
  rw [bigSep_univ_equiv (Equiv.optionEquivSumPUnit.{0} I).symm, bigSep_univ_sum, bigSep_univ_of_subsingleton PUnit.unit.{1}]; rfl

end Families

/-! ## Dealing and gathering -/

/-- What is left for the drain. -/
def rest (d : Dev nD) (c : Fin 4) : sProp 𝕄 :=
  iprop(sentC d c (.inl 0) ∗ sentC d c (.inr 0) ∗ (bigSep Finset.univ fun j : Hop => atPos ER (kcell (d, some (.sn c j))) 0 ∅ 0)
    ∗ cred (tallyAt (kcell (d, some (.xs c))) () (amt (some (.xs c)))) ∗ atPos ER (kcell (d, some (.xs c))) 0 ∅ 0)
/-- What the tail needs of a column chunk. -/
def tailIn (d : Dev nD) (c : Fin 4) : sProp 𝕄 :=
  iprop(bigSep Finset.univ (hopIn d c) ∗ ((bigSep Finset.univ fun h : Fin 6 => sendIn d c (.inl (h8s (h7 h)))) ∗ sendIn d c (.inl 7))
    ∗ (bigSep Finset.univ fun h : Fin 6 => sendIn d c (.inr (h7s h))) ∗ rest d c)
/-- What the hops leave. -/
def kept (d : Dev nD) (c : Fin 4) : sProp 𝕄 :=
  iprop(((bigSep Finset.univ fun h : Fin 6 => hopOut m d c (.inl (h8 h)) fullShare.right) ∗ hopOut m d c (.inl 6) fullShare.right ∗ hopOut m d c (.inl 7) fullShare)
    ∗ (bigSep Finset.univ fun h : Fin 6 => hopOut m d c (.inr (h7 h)) fullShare.right) ∗ hopOut m d c (.inr 6) fullShare)
/-- What the tail leaves. -/
def tailOut (d : Dev nD) (c : Fin 4) : sProp 𝕄 :=
  iprop((atPos ER (kcell (d, some (.xs c))) 1 ∅ 0 ∗ pP d c fullShare.left (pfin m d))
    ∗ (bigSep Finset.univ fun j : Hop => atPos ER (kcell (d, some (.rc c j))) 1 ∅ 0) ∗ (bigSep Finset.univ fun j : Hop => atPos ER (kcell (d, some (.sn c j))) 1 ∅ 0)
    ∗ (bigSep Finset.univ fun o : Option Hop => gP d c (rowOf d o) fullShare (gfin m d)) ∗ (bigSep Finset.univ fun j : Hop => oP d c (rb d j) (ofin m d)))

theorem tail_deal (d : Dev nD) (c : Fin 4) :
    (tailIn d c : sProp 𝕄) ⊢ iprop((bigSep Finset.univ fun h : Fin 6 => hopPre d (h, c)) ∗ hop6Pre d c ∗ hopIn d c (.inl 7) ∗ rest d c) := by
  have e : (bigSep Finset.univ fun h : Fin 6 => (hopPre d (h, c) : sProp 𝕄))
      = iprop((bigSep Finset.univ fun h : Fin 6 => hopIn d c (.inl (h8 h))) ∗ (bigSep Finset.univ fun h : Fin 6 => sendIn d c (.inl (h8s (h7 h))))
        ∗ (bigSep Finset.univ fun h : Fin 6 => hopIn d c (.inr (h7 h))) ∗ (bigSep Finset.univ fun h : Fin 6 => sendIn d c (.inr (h7s h)))) := by
    rw [← bigSep_sep', ← bigSep_sep', ← bigSep_sep']; rfl
  rw [e]
  unfold tailIn hop6Pre
  rw [hop_last]
  iintro ⟨⟨⟨Ha, Hb, Hc⟩, He, Hf⟩, ⟨Hs, Ht⟩, Hu, Hr⟩
  isplitl [Ha Hs He Hu]
  · isplitl [Ha]; · iexact Ha
    isplitl [Hs]; · iexact Hs
    isplitl [He] <;> iassumption
  isplitl [Hb Ht Hf]
  · isplitl [Hb]; · iexact Hb
    isplitl [Ht] <;> iassumption
  isplitl [Hc] <;> iassumption

theorem tail_mid (d : Dev nD) (c : Fin 4) :
    iprop((bigSep Finset.univ fun h : Fin 6 => hopPost m d (h, c)) ∗ hop6Post m d c ∗ hopOut m d c (.inl 7) fullShare ∗ rest d c)
      ⊢ iprop(drainPre d c ∗ kept m d c) := by
  have e : (bigSep Finset.univ fun h : Fin 6 => (hopPost m d (h, c) : sProp 𝕄))
      = iprop((bigSep Finset.univ fun h : Fin 6 => hopOut m d c (.inl (h8 h)) fullShare.right) ∗ (bigSep Finset.univ fun h : Fin 6 => sentC d c (.inl (h8s (h7 h))))
        ∗ (bigSep Finset.univ fun h : Fin 6 => hopOut m d c (.inr (h7 h)) fullShare.right) ∗ (bigSep Finset.univ fun h : Fin 6 => sentC d c (.inr (h7s h)))) := by
    rw [← bigSep_sep', ← bigSep_sep', ← bigSep_sep']; rfl
  have ed : (bigSep Finset.univ (drainIn d c) : sProp 𝕄)
      = iprop(bigSep Finset.univ (sentC d c) ∗ (bigSep Finset.univ fun j : Hop => atPos ER (kcell (d, some (.sn c j))) 0 ∅ 0)) := by
    rw [← bigSep_sep']; rfl
  rw [e]
  unfold hop6Post rest drainPre kept
  rw [ed, hop_first (sentC d c)]
  iintro ⟨⟨Ha, Hs, He, Hu⟩, ⟨Hb, Ht, Hf⟩, Hc, Hl, Hr, Hd, Hx, Hy⟩
  isplitl [Hs Hu Ht Hl Hr Hd Hx Hy]
  · isplitl [Hx Hy]
    · isplitl [Hx] <;> iassumption
    isplitr [Hd]
    · isplitl [Hs Ht Hl]
      · isplitr [Hl]
        · isplitl [Hs] <;> iassumption
        iexact Hl
      isplitl [Hu] <;> iassumption
    iexact Hd
  isplitl [Ha Hb Hc]
  · isplitl [Ha]; · iexact Ha
    isplitl [Hb] <;> iassumption
  isplitl [He] <;> iassumption

/-- The kept share of a received block and the share sent on make the block. -/
theorem gP_merge (d : Dev nD) (c : Fin 4) (j j' : Hop) (hj : next j = some j') :
    iprop(gP d c (rb d j) fullShare.right (gfin m d) ∗ gP d c (sb d j') (shr j') (gfin m d)) ⊢ gP d c (rb d j) fullShare (gfin m d) := by
  rw [sb_next d j j' hj, shr_next j j' hj]
  iintro ⟨Hr, Hl⟩
  iapply (gP_halves d c (rb d j) (gfin m d)).2
  isplitl [Hl] <;> iassumption

theorem tail_gather (d : Dev nD) (c : Fin 4) : iprop(drainPost m d c ∗ kept m d c) ⊢ tailOut m d c := by
  have ed : (bigSep Finset.univ (drainOut m d c) : sProp 𝕄)
      = iprop((bigSep Finset.univ fun j : Hop => atPos ER (kcell (d, some (.sn c j))) 1 ∅ 0) ∗ (bigSep Finset.univ fun j : Hop => gP d c (sb d j) (shr j) (gfin m d))) := by
    rw [← bigSep_sep']; rfl
  have eh : ∀ (f : Fin 6 → Hop), (bigSep Finset.univ fun h : Fin 6 => (hopOut m d c (f h) fullShare.right : sProp 𝕄))
      = iprop((bigSep Finset.univ fun h : Fin 6 => atPos ER (kcell (d, some (.rc c (f h)))) 1 ∅ 0)
        ∗ (bigSep Finset.univ fun h : Fin 6 => gP d c (rb d (f h)) fullShare.right (gfin m d)) ∗ (bigSep Finset.univ fun h : Fin 6 => oP d c (rb d (f h)) (ofin m d))) := by
    intro f; rw [← bigSep_sep', ← bigSep_sep']; rfl
  have em : ∀ (f g : Fin 6 → Hop), (∀ h, next (f h) = some (g h)) →
      iprop((bigSep Finset.univ fun h : Fin 6 => gP d c (rb d (f h)) fullShare.right (gfin m d)) ∗ (bigSep Finset.univ fun h : Fin 6 => gP d c (sb d (g h)) (shr (g h)) (gfin m d)))
        ⊢ (bigSep Finset.univ fun h : Fin 6 => gP d c (rb d (f h)) fullShare (gfin m d) : sProp 𝕄) := by
    intro f g hfg
    rw [← bigSep_sep']
    exact bigSep_mono fun h _ => gP_merge m d c (f h) (g h) (hfg h)
  unfold drainPost kept tailOut
  rw [ed, eh (fun h => .inl (h8 h)), eh (fun h => .inr (h7 h)), hop_first (fun j => gP d c (sb d j) (shr j) (gfin m d)),
    opt_all, hop_last (fun j => gP d c (rowOf d (some j)) fullShare (gfin m d)), hop_last (fun j => atPos ER (kcell (d, some (.rc c j))) 1 ∅ 0),
    hop_last (fun j => oP d c (rb d j) (ofin m d))]
  unfold hopOut
  iintro ⟨⟨Hx, Hsn, ⟨⟨Hs, Ht⟩, H0⟩, Hu, H0'⟩, ⟨⟨Ha1, Hg1, Ho1⟩, ⟨Ha2, Hg2, Ho2⟩, ⟨Ha3, Hg3, Ho3⟩⟩, ⟨Ha4, Hg4, Ho4⟩, ⟨Ha5, Hg5, Ho5⟩⟩
  isplitl [Hx]; · iexact Hx
  isplitl [Ha1 Ha2 Ha3 Ha4 Ha5]
  · isplitl [Ha1 Ha2 Ha3]
    · isplitl [Ha1]; · iexact Ha1
      isplitl [Ha2] <;> iassumption
    isplitl [Ha4] <;> iassumption
  isplitl [Hsn]; · iexact Hsn
  isplitr [Ho1 Ho2 Ho3 Ho4 Ho5]
  · isplitr [H0 H0']
    · isplitl [Hg1 Hs Hg2 Ht Hg3]
      · isplitl [Hg1 Hs]
        · iapply (em (fun h => .inl (h8 h)) (fun h => .inl (h8s (h7 h))) (by decide))
          isplitl [Hg1] <;> iassumption
        isplitl [Hg2 Ht]
        · iapply (gP_merge m d c (.inl 6) (.inl 7) (by decide))
          isplitl [Hg2] <;> iassumption
        iexact Hg3
      isplitl [Hg4 Hu]
      · iapply (em (fun h => .inr (h7 h)) (fun h => .inr (h7s h)) (by decide))
        isplitl [Hg4] <;> iassumption
      iexact Hg5
    iapply (gP_halves d c (pos d) (gfin m d)).2
    rw [show sb d (.inl 0) = pos d from (by decide +kernel : ∀ d, sb d (.inl 0) = pos d) d,
      show sb d (.inr 0) = pos d from (by decide +kernel : ∀ d, sb d (.inr 0) = pos d) d]
    isplitl [H0]; · iexact H0
    iexact H0'
  isplitl [Ho1 Ho2 Ho3]
  · isplitl [Ho1]; · iexact Ho1
    isplitl [Ho2] <;> iassumption
  isplitl [Ho4] <;> iassumption

theorem W_tail (d : Dev nD) :
    iprop(recs m K ∗ bigSep Finset.univ (tailIn d) ∗ owesS d tailPays)
      ⊢ W d (tail d) fun _ => iprop(bigSep Finset.univ (tailOut m d) ∗ owesS d []) := by
  have deal : (bigSep Finset.univ (tailIn d) : sProp 𝕄)
      ⊢ iprop(bigSepL hops (hopPre d) ∗ bigSepL [0, 1, 2, 3] (hop6Pre d) ∗ (bigSepL [0, 1, 2, 3] fun c => hopIn d c (.inl 7)) ∗ bigSep Finset.univ (rest d)) := by
    rw [hops_all, ← four_all, ← four_all, ← bigSep_sep', ← bigSep_sep', ← bigSep_sep']
    exact bigSep_mono fun c _ => tail_deal d c
  have mid : iprop(bigSepL hops (hopPost m d) ∗ bigSepL [0, 1, 2, 3] (hop6Post m d) ∗ (bigSepL [0, 1, 2, 3] fun c => hopOut m d c (.inl 7) fullShare) ∗ bigSep Finset.univ (rest d))
      ⊢ iprop(bigSepL [0, 1, 2, 3] (drainPre d) ∗ bigSep Finset.univ (kept m d)) := by
    rw [hops_all, ← four_all, ← four_all, ← four_all, ← bigSep_sep', ← bigSep_sep', ← bigSep_sep', ← bigSep_sep']
    exact bigSep_mono fun c _ => tail_mid m d c
  have gather : iprop(bigSepL [0, 1, 2, 3] (drainPost m d) ∗ bigSep Finset.univ (kept m d)) ⊢ bigSep Finset.univ (tailOut m d) := by
    rw [← four_all, ← bigSep_sep']
    exact bigSep_mono fun c _ => tail_gather m d c
  unfold tail
  iintro ⟨#HR, Hin, Ho⟩
  ihave Hin := deal $$ Hin
  icases Hin with ⟨H5, H6, H7, Hrest⟩
  iapply (W_seq (W_each m K d (hop d) (hopPre d) (hopPost m d) (fun a => 10 + a.1.val) hopPays (W_hop m K d) hops ([0, 1, 2, 3].flatMap hop6Pays) fits_hops)) $$ [H5 Ho]
  · isplitr; · iexact HR
    isplitl [H5]; · iexact H5
    iexact Ho
  iintro %_ ⟨H5, Ho⟩
  iapply (W_seq (W_each m K d (hop6 d) (hop6Pre d) (hop6Post m d) (fun _ => 16) hop6Pays (W_hop6 m K d) [0, 1, 2, 3] [] fits_hop6)) $$ [H6 Ho]
  · isplitr; · iexact HR
    isplitl [H6]; · iexact H6
    iexact Ho
  iintro %_ ⟨H6, Ho⟩
  iapply (W_seq (W_each m K d (hop7 d) (fun c => hopIn d c (.inl 7)) (fun c => hopOut m d c (.inl 7) fullShare) (fun _ => 17) (fun _ => []) (W_hop7 m K d) [0, 1, 2, 3] [] fits_hop7)) $$ [H7 Ho]
  · isplitr; · iexact HR
    isplitl [H7]; · iexact H7
    iexact Ho
  iintro %_ ⟨H7, Ho⟩
  ihave Hm := mid $$ [H5 H6 H7 Hrest]
  · isplitl [H5]; · iexact H5
    isplitl [H6]; · iexact H6
    isplitl [H7] <;> iassumption
  icases Hm with ⟨Hd, Hk⟩
  iapply (wp_wand frame (wpE (defs₀ (F := F)) 𝒱₀ (d : Thread nD τ) none) Set.univ) $$ [Hd Ho]
  · iapply (W_each m K d (drain d) (drainPre d) (drainPost m d) (fun _ => 0) (fun _ => []) (W_drain m K d) [0, 1, 2, 3] [] fits_drain)
    isplitr; · iexact HR
    isplitl [Hd]; · iexact Hd
    iexact Ho
  iintro %_ ⟨Hd, Ho⟩
  isplitr [Ho]
  · iapply gather
    isplitl [Hd] <;> iassumption
  iexact Ho

end Cert.KernelIdeal.Ring

end
-- ==== Proof.Body.lean ====
/- The body from its start to its end. -/
module

public import proofs.«01_k».proof.Proof.Tail

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The prologue -/

/-- A device's own blocks and slices, as they are lent to the devices that write them. -/
theorem lend_org (d : Dev nD) (c : Fin 4) (j : Hop) : (iprop(∃ f, gP d c (rb d j) fullShare f) : sProp 𝕄) = lend (org d j) (c, j) := by
  unfold lend; dsimp only; rw [tgt_org, sb_org]
theorem lendX_xp (d : Dev nD) (c : Fin 4) : (iprop(∃ f, xP d c f) : sProp 𝕄) = lendX (xp d) c := by
  unfold lendX; rw [xp_xp]

theorem lends_pay (d : Dev nD) :
    (bigSep Finset.univ fun c : Fin 4 => bigSep Finset.univ fun j : Hop => iprop(∃ f, gP d c (rb d j) fullShare f) : sProp 𝕄)
      = iprop(pay m (ln d) none 0 1 ∗ pay m (rn d) none 0 0) := by
  show _ = iprop((bigSep Finset.univ fun a : Fin 4 × Fin 8 => lend (ln d) (a.1, .inl a.2)) ∗ (bigSep Finset.univ fun a : Fin 4 × Fin 7 => lend (rn d) (a.1, .inr a.2)))
  rw [bigSep_univ_prod, bigSep_univ_prod, ← bigSep_sep']
  exact bigSep_congr fun c _ => by
    rw [bigSep_univ_sum]
    exact congrArg₂ BI.sep (bigSep_congr fun h _ => lend_org d c (.inl h)) (bigSep_congr fun h _ => lend_org d c (.inr h))
theorem lends_paid (d : Dev nD) :
    iprop(pay m d none 0 0 ∗ pay m d none 0 1) = (bigSep Finset.univ fun c : Fin 4 => bigSep Finset.univ fun j : Hop => lend d (c, j) : sProp 𝕄) := by
  show iprop((bigSep Finset.univ fun a : Fin 4 × Fin 7 => lend d (a.1, .inr a.2)) ∗ (bigSep Finset.univ fun a : Fin 4 × Fin 8 => lend d (a.1, .inl a.2))) = _
  rw [bigSep_univ_prod, bigSep_univ_prod, ← bigSep_sep']
  exact bigSep_congr fun c _ => by rw [bigSep_univ_sum]; exact BI.Entails.antisymm BI.sep_comm BI.sep_comm
theorem lendX_pay (d : Dev nD) : (bigSep Finset.univ fun c : Fin 4 => iprop(∃ f, xP d c f) : sProp 𝕄) = pay m (xp d) none 0 2 :=
  bigSep_congr fun c _ => lendX_xp d c

theorem three_sep (Φ : Fin 3 → sProp 𝕄) : bigSep Finset.univ Φ = iprop(Φ 0 ∗ Φ 1 ∗ Φ 2) :=
  bigSep_univ_eq_bigSepL [0, 1, 2] (by decide) (by decide) Φ

/-- What the prologue takes, -/
def proIn (d : Dev nD) : sProp 𝕄 :=
  iprop((cred (tallyAt (kcell (d, none)) () 3) ∗ atPos ER (kcell (d, none)) 0 ∅ 0) ∗ atPos ER (kcell (d, some .dy)) 0 ∅ 0
    ∗ (tok d .dy ∗ tok d (.w 0) ∗ tok (rn d) (.bar 0) ∗ tok (ln d) (.bar 1) ∗ tok (xp d) (.bar 2))
    ∗ (dySrc m d ∗ wSrc m d 0 ∗ (∃ f, dP d f) ∗ (∃ f, wP d f))
    ∗ (bigSep Finset.univ fun c : Fin 4 => bigSep Finset.univ fun j : Hop => iprop(∃ f, gP d c (rb d j) fullShare f))
    ∗ (bigSep Finset.univ fun c : Fin 4 => iprop(∃ f, xP d c f)))
/-- and what it leaves. -/
def proOut (d : Dev nD) : sProp 𝕄 :=
  iprop((atPos ER (kcell (d, none)) 1 ∅ 0 ∗ atPos ER (kcell (d, some .dy)) 1 ∅ 0) ∗ cred (tallyAt (kcell (d, some .w)) () (amt (some .w)))
    ∗ dP d (dyv m d) ∗ dySrc m d
    ∗ (bigSep Finset.univ fun c : Fin 4 => bigSep Finset.univ fun j : Hop => lend d (c, j)) ∗ (bigSep Finset.univ fun c : Fin 4 => lendX d c))

theorem W_prologue (d : Dev nD) (T : List Tk) (hT : ∀ t ∈ T, 1 < klv t.cell) :
    iprop(recs m K ∗ proIn m d ∗ owesS d (.bar 0 :: .bar 1 :: .bar 2 :: T)) ⊢ W d (prologue d) fun _ => iprop(proOut m d ∗ owesS d T) := by
  unfold proIn prologue
  rw [lends_pay m d, lendX_pay m d]
  iintro ⟨#HR, ⟨⟨Hcb, Hab⟩, Had, ⟨Htd, Htw, Ht0, Ht1, Ht2⟩, ⟨Hds, Hws, Hd, Hw⟩, ⟨Hp1, Hp0⟩, Hp2⟩, Ho⟩
  iapply (W_seq (W_getDy m K d)) $$ [Hds Hd Htd]
  · isplitr; · iexact HR
    isplitl [Hds]; · iexact Hds
    isplitl [Hd] <;> iassumption
  iintro %_ Hcd
  iapply (W_seq (W_getW m K d 0)) $$ [Hws Hw Htw]
  · isplitr; · iexact HR
    isplitr; · iapply (reached_at m K (d, some .w)); iexact HR
    isplitl [Hws]; · iexact Hws
    isplitl [Hw] <;> iassumption
  iintro %_ Hcw
  iapply (W_seq (W_signal m K d 0 (.bar 1 :: .bar 2 :: T))) $$ [Hp0 Ht0 Ho]
  · isplitr; · iexact HR
    isplitl [Hp0]; · iexact Hp0
    isplitl [Ht0]; · iexact Ht0
    iexact Ho
  iintro %_ Ho
  iapply (W_seq (W_signal m K d 1 (.bar 2 :: T))) $$ [Hp1 Ht1 Ho]
  · isplitr; · iexact HR
    isplitl [Hp1]; · iexact Hp1
    isplitl [Ht1]; · iexact Ht1
    iexact Ho
  iintro %_ Ho
  iapply (W_seq (W_signal m K d 2 T)) $$ [Hp2 Ht2 Ho]
  · isplitr; · iexact HR
    isplitl [Hp2]; · iexact Hp2
    isplitl [Ht2]; · iexact Ht2
    iexact Ho
  iintro %_ Ho
  iapply (W_seq (W_bar m K d T hT)) $$ [Hcb Hab Ho]
  · isplitr; · iexact HR
    isplitl [Hcb]; · iexact Hcb
    isplitl [Hab] <;> iassumption
  iintro %_ ⟨Hab, -, Hp, Ho⟩
  iapply (wp_wand frame (wpE (defs₀ (F := F)) 𝒱₀ (d : Thread nD τ) none) Set.univ) $$ [Hcd Had Ho]
  · iapply (W_waitDy m K d T (fun t ht => Nat.lt_of_succ_lt (hT t ht)))
    isplitr; · iexact HR
    isplitl [Hcd]; · iexact Hcd
    isplitl [Had] <;> iassumption
  iintro %_ ⟨Had, -, ⟨Hd, Hds⟩, Ho⟩
  unfold proOut
  ihave Hp := (Entails.of_eq (three_sep _)) $$ Hp
  icases Hp with ⟨Hp0, Hp1, Hp2⟩
  isplitr [Ho]
  · isplitl [Hab Had]
    · isplitl [Hab] <;> iassumption
    isplitl [Hcw]; · iexact Hcw
    isplitl [Hd]; · iexact Hd
    isplitl [Hds]; · iexact Hds
    isplitl [Hp0 Hp1]
    · iapply (Entails.of_eq (lends_paid m d))
      isplitl [Hp0] <;> iassumption
    iapply (show pay m d none 0 2 ⊢ (bigSep Finset.univ fun c : Fin 4 => lendX d c : sProp 𝕄) from BI.Entails.refl _); iexact Hp2
  iexact Ho

/-! ## A chunk's product and sum -/

/-- What the next copy of `W` takes, -/
def getIn (d : Dev nD) (c : Fin 4) : sProp 𝕄 := iprop(wSrc m d c ∗ tok d (.w c))
/-- the product's copy to the partner, -/
def chIn (d : Dev nD) (c : Fin 4) : sProp 𝕄 := iprop((∃ f, pP d c fullShare f) ∗ lendX d c ∗ tok d (.xs c) ∗ tok (xp d) (.x c))
/-- the sum, -/
def finIn (d : Dev nD) (c : Fin 4) : sProp 𝕄 :=
  iprop((cred (tallyAt (kcell (d, some (.xr c))) () (amt (some (.xr c)))) ∗ atPos ER (kcell (d, some (.xr c))) 0 ∅ 0)
    ∗ (∃ f, gP d c (pos d) fullShare f) ∗ (sendIn d c (.inl 0) ∗ sendIn d c (.inr 0)) ∗ ∃ f, oP d c (pos d) f)
/-- and what the sum leaves. -/
def finOut (d : Dev nD) (c : Fin 4) : sProp 𝕄 :=
  iprop(atPos ER (kcell (d, some (.xr c))) 1 ∅ 0 ∗ (pP d c fullShare.right (pfin m d) ∗ xP d c (pfin m (xp d))) ∗ (sentC d c (.inl 0) ∗ sentC d c (.inr 0)) ∗ oP d c (pos d) (ofin m d))

theorem W_chunk (d : Dev nD) (c : Fin 4) (T : List Tk) (hT : ∀ t ∈ T, 0 < klv t.cell) :
    iprop(recs m K ∗ (cred (tallyAt (kcell (d, some .w)) () (amt (some .w))) ∗ atPos ER (kcell (d, some .w)) c.val ∅ 0) ∗ dP d (dyv m d) ∗ chIn d c ∗ owesS d (.x c :: T))
      ⊢ W d (chunk d c) fun _ => iprop((atPos ER (kcell (d, some .w)) (c.val + 1) ∅ 0 ∗ reached ER (kcell (d, some .w)) (c.val + 1)) ∗ wSrc m d c ∗ dP d (dyv m d) ∗ (∃ f, wP d f)
          ∗ pP d c fullShare.right (pfin m d) ∗ cred (tallyAt (kcell (d, some (.xs c))) () (amt (some (.xs c)))) ∗ owesS d T) := by
  unfold chIn chunk
  iintro ⟨#HR, ⟨Hc, Ha⟩, Hd, ⟨Hp, Hl, Ht, Ht'⟩, Ho⟩
  iapply (W_seq (W_waitW m K d c (.x c :: T) (by
    intro t ht
    rcases List.mem_cons.mp ht with rfl | ht
    · show 0 < 2 + c.val; omega
    · exact hT t ht))) $$ [Hc Ha Ho]
  · isplitr; · iexact HR
    isplitl [Hc]; · iexact Hc
    isplitl [Ha] <;> iassumption
  iintro %_ ⟨Ha, Hre, ⟨Hw, Hws⟩, Ho⟩
  iapply (W_seq (W_mul m d c)) $$ [Hd Hw Hp]
  · isplitl [Hd]; · iexact Hd
    isplitl [Hw] <;> iassumption
  iintro %_ ⟨Hd, Hw, Hp⟩
  ihave Hp := (pP_halves d c (pfin m d)).1 $$ Hp
  icases Hp with ⟨Hpl, Hpr⟩
  iapply (wp_wand frame (wpE (defs₀ (F := F)) 𝒱₀ (d : Thread nD τ) none) Set.univ) $$ [Hpl Hl Ht Ht' Ho]
  · iapply (W_sendX m K d c T)
    isplitr; · iexact HR
    isplitl [Hpl]; · iexact Hpl
    isplitl [Hl]; · iexact Hl
    isplitl [Ht]; · iexact Ht
    isplitl [Ht'] <;> iassumption
  iintro %_ ⟨Hc, Ho⟩
  isplitl [Ha Hre]
  · isplitl [Ha] <;> iassumption
  isplitl [Hws]; · iexact Hws
  isplitl [Hd]; · iexact Hd
  isplitl [Hw]; · iexists _; iexact Hw
  isplitl [Hpr]; · iexact Hpr
  isplitl [Hc] <;> iassumption

theorem W_next (d : Dev nD) (c : Fin 4) :
    iprop(recs m K ∗ reached ER (kcell (d, some .w)) c.val ∗ getIn m d c ∗ (∃ f, wP d f))
      ⊢ W d (getW c) fun _ => (cred (tallyAt (kcell (d, some .w)) () (amt (some .w))) : sProp 𝕄) := by
  unfold getIn
  iintro ⟨#HR, Hre, ⟨Hs, Ht⟩, Hw⟩
  iapply (W_getW m K d c)
  isplitr; · iexact HR
  isplitl [Hre]; · iexact Hre
  isplitl [Hs]; · iexact Hs
  isplitl [Hw] <;> iassumption

theorem W_finish (d : Dev nD) (c : Fin 4) (T : List Tk) (hT : ∀ t ∈ T, 2 + c.val < klv t.cell) :
    iprop(recs m K ∗ finIn d c ∗ pP d c fullShare.right (pfin m d) ∗ owesS d (startPays c ++ T))
      ⊢ W d (finish d c) fun _ => iprop(finOut m d c ∗ owesS d T) := by
  have hs0 : sb d (.inl 0) = pos d := (by decide +kernel : ∀ d, sb d (.inl 0) = pos d) d
  have hs1 : sb d (.inr 0) = pos d := (by decide +kernel : ∀ d, sb d (.inr 0) = pos d) d
  unfold finIn finish
  iintro ⟨#HR, ⟨⟨Hc, Ha⟩, Hg, ⟨Hs0, Hs1⟩, Hout⟩, Hp, Ho⟩
  iapply (W_seq (W_waitX m K d c (startPays c ++ T) (by
    intro t ht
    rcases List.mem_append.mp ht with ht | ht
    · have hc : c.val < 4 := c.isLt
      have : klv t.cell = 10 := by
        rcases List.mem_cons.mp ht with rfl | ht
        · rfl
        · rcases List.mem_singleton.mp ht with rfl; rfl
      omega
    · exact hT t ht))) $$ [Hc Ha Ho]
  · isplitr; · iexact HR
    isplitl [Hc]; · iexact Hc
    isplitl [Ha] <;> iassumption
  iintro %_ ⟨Ha, -, Hx, Ho⟩
  iapply (W_seq (W_redG m d c)) $$ [Hp Hx Hg]
  · isplitl [Hp]; · iexact Hp
    isplitl [Hx] <;> iassumption
  iintro %v ⟨%hv, Hp, Hx, Hg⟩
  ihave Hg := (gP_halves d c (pos d) (gfin m d)).1 $$ Hg
  icases Hg with ⟨Hgl, Hgr⟩
  unfold sendIn
  icases Hs0 with ⟨Hl0, Hk0, Hq0⟩
  icases Hs1 with ⟨Hl1, Hk1, Hq1⟩
  iapply (W_seq (W_sendG m K d c (.inl 0) (.ring c (.inr 0) :: T))) $$ [Hgl Hl0 Hk0 Hq0 Ho]
  · isplitr; · iexact HR
    isplitl [Hgl]; · rw [hs0]; iexact Hgl
    isplitl [Hl0]; · iexact Hl0
    isplitl [Hk0]; · iexact Hk0
    isplitl [Hq0]; · iexact Hq0
    iexact Ho
  iintro %_ ⟨Hc0, Ho⟩
  iapply (W_seq (W_sendG m K d c (.inr 0) T)) $$ [Hgr Hl1 Hk1 Hq1 Ho]
  · isplitr; · iexact HR
    isplitl [Hgr]; · rw [hs1]; iexact Hgr
    isplitl [Hl1]; · iexact Hl1
    isplitl [Hk1]; · iexact Hk1
    isplitl [Hq1]; · iexact Hq1
    iexact Ho
  iintro %_ ⟨Hc1, Ho⟩
  iapply (wp_wand frame (wpE (defs₀ (F := F)) 𝒱₀ (d : Thread nD τ) none) Set.univ) $$ [Hout]
  · iapply (W_putO m d c (pos d) (offP c d) (offP_inb c d) (offP_eq c d) v (by rw [hv]; unfold ov; rw [if_pos rfl]))
    iexact Hout
  iintro %_ Hout
  unfold finOut sentC
  isplitr [Ho]
  · isplitl [Ha]; · iexact Ha
    isplitl [Hp Hx]
    · isplitl [Hp] <;> iassumption
    isplitl [Hc0 Hc1]
    · isplitl [Hc0] <;> iassumption
    iexact Hout
  iexact Ho

/-! ## The whole body -/

/-- What the rest of a chunk's work takes besides its sum. -/
def restIn (d : Dev nD) (c : Fin 4) : sProp 𝕄 :=
  iprop(bigSep Finset.univ (hopIn d c) ∗ ((bigSep Finset.univ fun h : Fin 6 => sendIn d c (.inl (h8s (h7 h)))) ∗ sendIn d c (.inl 7))
    ∗ (bigSep Finset.univ fun h : Fin 6 => sendIn d c (.inr (h7s h)))
    ∗ (bigSep Finset.univ fun j : Hop => atPos ER (kcell (d, some (.sn c j))) 0 ∅ 0) ∗ atPos ER (kcell (d, some (.xs c))) 0 ∅ 0)

/-- What a device holds of chunk `c` before anything is lent to it. -/
def cPre (d : Dev nD) (c : Fin 4) : sProp 𝕄 :=
  iprop(((∃ f, pP d c fullShare f) ∗ tok d (.xs c) ∗ tok (xp d) (.x c))
    ∗ (cred (tallyAt (kcell (d, some (.xr c))) () (amt (some (.xr c)))) ∗ atPos ER (kcell (d, some (.xr c))) 0 ∅ 0)
    ∗ ((∃ f, gP d c (pos d) fullShare f) ∗ ∃ f, oP d c (pos d) f)
    ∗ (bigSep Finset.univ fun j : Hop => iprop(tok d (.sn c j) ∗ tok (tgt d j) (.ring c j)))
    ∗ bigSep Finset.univ (hopIn d c)
    ∗ (bigSep Finset.univ fun j : Hop => atPos ER (kcell (d, some (.sn c j))) 0 ∅ 0) ∗ atPos ER (kcell (d, some (.xs c))) 0 ∅ 0)

theorem c_deal (d : Dev nD) (c : Fin 4) :
    iprop(cPre d c ∗ (bigSep Finset.univ fun j : Hop => lend d (c, j)) ∗ lendX d c) ⊢ (iprop(chIn d c ∗ finIn d c ∗ restIn d c) : sProp 𝕄) := by
  have e : iprop((bigSep Finset.univ fun j : Hop => lend d (c, j)) ∗ (bigSep Finset.univ fun j : Hop => iprop(tok d (.sn c j) ∗ tok (tgt d j) (.ring c j))))
      = (bigSep Finset.univ (sendIn d c) : sProp 𝕄) := by rw [← bigSep_sep']; rfl
  unfold cPre
  iintro ⟨⟨⟨Hp, Hx, Hx'⟩, Hr, ⟨Hg, Hout⟩, Ht, Hh, Hsn, Hxs⟩, Hl, Hlx⟩
  ihave Hs := (Entails.of_eq (e.trans (hop_first (sendIn d c)))) $$ [Hl Ht]
  · isplitl [Hl] <;> iassumption
  icases Hs with ⟨⟨⟨Hs, Hs7⟩, Hs0⟩, Hu, Hu0⟩
  unfold chIn finIn restIn
  isplitl [Hp Hlx Hx Hx']
  · isplitl [Hp]; · iexact Hp
    isplitl [Hlx]; · iexact Hlx
    isplitl [Hx] <;> iassumption
  isplitl [Hr Hg Hs0 Hu0 Hout]
  · isplitl [Hr]; · iexact Hr
    isplitl [Hg]; · iexact Hg
    isplitr [Hout]
    · isplitl [Hs0] <;> iassumption
    iexact Hout
  isplitl [Hh]; · iexact Hh
  isplitl [Hs Hs7]
  · isplitl [Hs] <;> iassumption
  isplitl [Hu]; · iexact Hu
  isplitl [Hsn] <;> iassumption

/-- The chunk's part of what the body leaves. -/
def cOut (d : Dev nD) (c : Fin 4) : sProp 𝕄 :=
  iprop(tailOut m d c ∗ atPos ER (kcell (d, some (.xr c))) 1 ∅ 0 ∗ (pP d c fullShare.right (pfin m d) ∗ xP d c (pfin m (xp d))) ∗ oP d c (pos d) (ofin m d))

/-- The sum done, and the copy to the partner still to be waited for. -/
def midIn (d : Dev nD) (c : Fin 4) : sProp 𝕄 :=
  iprop(finOut m d c ∗ restIn d c ∗ cred (tallyAt (kcell (d, some (.xs c))) () (amt (some (.xs c)))))

theorem c_mid (d : Dev nD) (c : Fin 4) :
    midIn m d c ⊢ iprop(tailIn d c ∗ atPos ER (kcell (d, some (.xr c))) 1 ∅ 0 ∗ (pP d c fullShare.right (pfin m d) ∗ xP d c (pfin m (xp d))) ∗ oP d c (pos d) (ofin m d)) := by
  unfold midIn finOut restIn tailIn rest
  iintro ⟨⟨Ha, Hp, ⟨Hc0, Hc1⟩, Hout⟩, ⟨Hh, Hs, Hu, Hsn, Hxs⟩, Hc⟩
  isplitr [Ha Hp Hout]
  · isplitl [Hh]; · iexact Hh
    isplitl [Hs]; · iexact Hs
    isplitl [Hu]; · iexact Hu
    isplitl [Hc0]; · iexact Hc0
    isplitl [Hc1]; · iexact Hc1
    isplitl [Hsn]; · iexact Hsn
    isplitl [Hc] <;> iassumption
  isplitl [Ha]; · iexact Ha
  isplitl [Hp] <;> iassumption

theorem four_sep (Φ : Fin 4 → sProp 𝕄) : bigSep Finset.univ Φ = iprop(Φ 0 ∗ Φ 1 ∗ Φ 2 ∗ Φ 3) := four_all Φ

/-- What the body takes, -/
def bodyIn (d : Dev nD) : sProp 𝕄 :=
  iprop(proIn m d ∗ (getIn m d 1 ∗ getIn m d 2 ∗ getIn m d 3) ∗ atPos ER (kcell (d, some .w)) 0 ∅ 0 ∗ bigSep Finset.univ (cPre d))
/-- and what it leaves. -/
def bodyOut (d : Dev nD) : sProp 𝕄 :=
  iprop((atPos ER (kcell (d, none)) 1 ∅ 0 ∗ atPos ER (kcell (d, some .dy)) 1 ∅ 0 ∗ atPos ER (kcell (d, some .w)) 4 ∅ 0)
    ∗ (dySrc m d ∗ bigSep Finset.univ (wSrc m d)) ∗ ((∃ f, dP d f) ∗ (∃ f, wP d f)) ∗ bigSep Finset.univ (cOut m d))

/-- Payments still owed from a point of the body on. -/
abbrev pays3 : List Tk := startPays 3 ++ tailPays
abbrev pays2 : List Tk := startPays 2 ++ pays3
abbrev pays1 : List Tk := startPays 1 ++ (.x 3 :: pays2)
abbrev pays0 : List Tk := startPays 0 ++ (.x 2 :: pays1)

theorem lv_pro : ∀ t ∈ (Tk.x 0 :: .x 1 :: pays0), 1 < klv t.cell := by decide +kernel
theorem lv_ch0 : ∀ t ∈ (Tk.x 1 :: pays0), 0 < klv t.cell := by decide +kernel
theorem lv_ch1 : ∀ t ∈ pays0, 0 < klv t.cell := by decide +kernel
theorem lv_fin0 : ∀ t ∈ (Tk.x 2 :: pays1), 2 < klv t.cell := by decide +kernel
theorem lv_ch2 : ∀ t ∈ pays1, 0 < klv t.cell := by decide +kernel
theorem lv_fin1 : ∀ t ∈ (Tk.x 3 :: pays2), 3 < klv t.cell := by decide +kernel
theorem lv_ch3 : ∀ t ∈ pays2, 0 < klv t.cell := by decide +kernel
theorem lv_fin2 : ∀ t ∈ pays3, 4 < klv t.cell := by decide +kernel
theorem lv_fin3 : ∀ t ∈ tailPays, 5 < klv t.cell := by decide +kernel

theorem W_deviceId {α : Type} (d : Dev nD) (k : Dev nD → PG F α) (Q : α → sProp 𝕄) : W d (Prog.lift .deviceId >>= k) Q = W d (k d) Q := by
  unfold W
  simp only [Prog.lift, Prog.bind_op, Prog.bind_ret, wp_deviceId]

theorem W_body (d : Dev nD) :
    iprop(recs m K ∗ bodyIn m d ∗ owesS d payList) ⊢ W d (body (F := F)) fun _ => iprop(bodyOut m d ∗ owesS d []) := by
  have mid : bigSep Finset.univ (midIn m d) ⊢ iprop(bigSep Finset.univ (tailIn d) ∗ (bigSep Finset.univ fun c =>
      iprop(atPos ER (kcell (d, some (.xr c))) 1 ∅ 0 ∗ (pP d c fullShare.right (pfin m d) ∗ xP d c (pfin m (xp d))) ∗ oP d c (pos d) (ofin m d)))) := by
    rw [← bigSep_sep']; exact bigSep_mono fun c _ => c_mid m d c
  have deal : iprop(bigSep Finset.univ (cPre d) ∗ (bigSep Finset.univ fun c : Fin 4 => bigSep Finset.univ fun j : Hop => lend d (c, j)) ∗ (bigSep Finset.univ fun c : Fin 4 => lendX d c))
      ⊢ (bigSep Finset.univ fun c : Fin 4 => iprop(chIn d c ∗ finIn d c ∗ restIn d c) : sProp 𝕄) := by
    rw [← bigSep_sep', ← bigSep_sep']; exact bigSep_mono fun c _ => c_deal d c
  unfold bodyIn body
  iintro ⟨#HR, ⟨Hpro, ⟨Hg1, Hg2, Hg3⟩, Haw, Hc⟩, Ho⟩
  rw [W_deviceId]
  iapply (W_seq (W_prologue m K d (.x 0 :: .x 1 :: pays0) lv_pro)) $$ [Hpro Ho]
  · isplitr; · iexact HR
    isplitl [Hpro]; · iexact Hpro
    iexact Ho
  iintro %_ ⟨Hpro, Ho⟩
  unfold proOut
  icases Hpro with ⟨⟨Hab, Had⟩, Hcw, Hd, Hds, Hl, Hlx⟩
  ihave Hc := deal $$ [Hc Hl Hlx]
  · isplitl [Hc]; · iexact Hc
    isplitl [Hl] <;> iassumption
  ihave Hc := (Entails.of_eq (four_sep _)) $$ Hc
  icases Hc with ⟨⟨Hch0, Hf0, Hr0⟩, ⟨Hch1, Hf1, Hr1⟩, ⟨Hch2, Hf2, Hr2⟩, ⟨Hch3, Hf3, Hr3⟩⟩
  iapply (W_seq (W_chunk m K d 0 (.x 1 :: pays0) lv_ch0)) $$ [Hcw Haw Hd Hch0 Ho]
  · isplitr; · iexact HR
    isplitl [Hcw Haw]
    · isplitl [Hcw]; · iexact Hcw
      iexact Haw
    isplitl [Hd]; · iexact Hd
    isplitl [Hch0] <;> iassumption
  iintro %_ ⟨⟨Haw, Hre⟩, Hw0, Hd, Hw, Hp0, Hx0, Ho⟩
  iapply (W_seq (W_next m K d 1)) $$ [Hre Hg1 Hw]
  · isplitr; · iexact HR
    isplitl [Hre]; · iexact Hre
    isplitl [Hg1] <;> iassumption
  iintro %_ Hcw
  iapply (W_seq (W_chunk m K d 1 pays0 lv_ch1)) $$ [Hcw Haw Hd Hch1 Ho]
  · isplitr; · iexact HR
    isplitl [Hcw Haw]
    · isplitl [Hcw]; · iexact Hcw
      iexact Haw
    isplitl [Hd]; · iexact Hd
    isplitl [Hch1] <;> iassumption
  iintro %_ ⟨⟨Haw, Hre⟩, Hw1, Hd, Hw, Hp1, Hx1, Ho⟩
  iapply (W_seq (W_finish m K d 0 (.x 2 :: pays1) lv_fin0)) $$ [Hf0 Hp0 Ho]
  · isplitr; · iexact HR
    isplitl [Hf0]; · iexact Hf0
    isplitl [Hp0] <;> iassumption
  iintro %_ ⟨Hf0, Ho⟩
  iapply (W_seq (W_next m K d 2)) $$ [Hre Hg2 Hw]
  · isplitr; · iexact HR
    isplitl [Hre]; · iexact Hre
    isplitl [Hg2] <;> iassumption
  iintro %_ Hcw
  iapply (W_seq (W_chunk m K d 2 pays1 lv_ch2)) $$ [Hcw Haw Hd Hch2 Ho]
  · isplitr; · iexact HR
    isplitl [Hcw Haw]
    · isplitl [Hcw]; · iexact Hcw
      iexact Haw
    isplitl [Hd]; · iexact Hd
    isplitl [Hch2] <;> iassumption
  iintro %_ ⟨⟨Haw, Hre⟩, Hw2, Hd, Hw, Hp2, Hx2, Ho⟩
  iapply (W_seq (W_finish m K d 1 (.x 3 :: pays2) lv_fin1)) $$ [Hf1 Hp1 Ho]
  · isplitr; · iexact HR
    isplitl [Hf1]; · iexact Hf1
    isplitl [Hp1] <;> iassumption
  iintro %_ ⟨Hf1, Ho⟩
  iapply (W_seq (W_next m K d 3)) $$ [Hre Hg3 Hw]
  · isplitr; · iexact HR
    isplitl [Hre]; · iexact Hre
    isplitl [Hg3] <;> iassumption
  iintro %_ Hcw
  iapply (W_seq (W_chunk m K d 3 pays2 lv_ch3)) $$ [Hcw Haw Hd Hch3 Ho]
  · isplitr; · iexact HR
    isplitl [Hcw Haw]
    · isplitl [Hcw]; · iexact Hcw
      iexact Haw
    isplitl [Hd]; · iexact Hd
    isplitl [Hch3] <;> iassumption
  iintro %_ ⟨⟨Haw, -⟩, Hw3, Hd, Hw, Hp3, Hx3, Ho⟩
  iapply (W_seq (W_finish m K d 2 pays3 lv_fin2)) $$ [Hf2 Hp2 Ho]
  · isplitr; · iexact HR
    isplitl [Hf2]; · iexact Hf2
    isplitl [Hp2] <;> iassumption
  iintro %_ ⟨Hf2, Ho⟩
  iapply (W_seq (W_finish m K d 3 tailPays lv_fin3)) $$ [Hf3 Hp3 Ho]
  · isplitr; · iexact HR
    isplitl [Hf3]; · iexact Hf3
    isplitl [Hp3] <;> iassumption
  iintro %_ ⟨Hf3, Ho⟩
  ihave Hm := ((Entails.of_eq (four_sep (midIn m d)).symm).trans mid) $$ [Hf0 Hr0 Hx0 Hf1 Hr1 Hx1 Hf2 Hr2 Hx2 Hf3 Hr3 Hx3]
  · unfold midIn
    isplitl [Hf0 Hr0 Hx0]
    · isplitl [Hf0]; · iexact Hf0
      isplitl [Hr0] <;> iassumption
    isplitl [Hf1 Hr1 Hx1]
    · isplitl [Hf1]; · iexact Hf1
      isplitl [Hr1] <;> iassumption
    isplitl [Hf2 Hr2 Hx2]
    · isplitl [Hf2]; · iexact Hf2
      isplitl [Hr2] <;> iassumption
    isplitl [Hf3]; · iexact Hf3
    isplitl [Hr3] <;> iassumption
  icases Hm with ⟨Ht, Hk⟩
  iapply (wp_wand frame (wpE (defs₀ (F := F)) 𝒱₀ (d : Thread nD τ) none) Set.univ) $$ [Ht Ho]
  · iapply (W_tail m K d)
    isplitr; · iexact HR
    isplitl [Ht] <;> iassumption
  iintro %_ ⟨Ht, Ho⟩
  unfold bodyOut
  isplitr [Ho]
  · isplitl [Hab Had Haw]
    · isplitl [Hab]; · iexact Hab
      isplitl [Had]; · iexact Had
      iexact Haw
    isplitl [Hds Hw0 Hw1 Hw2 Hw3]
    · isplitl [Hds]; · iexact Hds
      rw [four_sep]
      isplitl [Hw0]; · iexact Hw0
      isplitl [Hw1]; · iexact Hw1
      isplitl [Hw2] <;> iassumption
    isplitl [Hd Hw]
    · isplitl [Hd]; · iexists _; iexact Hd
      iexact Hw
    iapply (show iprop(bigSep Finset.univ (tailOut m d) ∗ _) ⊢ bigSep Finset.univ (cOut m d) from Entails.of_eq (bigSep_sep' _ _ _).symm)
    isplitl [Ht] <;> iassumption
  iexact Ho

end Cert.KernelIdeal.Ring

end
-- ==== Proof.Deal.lean ====
/- What the launch gives a device, dealt to the body's parts, and what the body leaves, gathered. -/
module

public import proofs.«01_k».proof.Proof.Body
public import Idealize.ShloMosaic.Lib.Ring
public import Idealize.ShloMosaic.Lib.Rounds.Family

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)

/-! ## Families over the duties and the semaphores -/

section Families

variable {M : Type} [URA M]

theorem tk_all (Φ : Tk → sProp M) : bigSep Finset.univ Φ
    = iprop(((bigSep Finset.univ fun δ => Φ (.bar δ)) ∗ (bigSep Finset.univ fun c => Φ (.x c)) ∗ bigSep Finset.univ fun c => bigSep Finset.univ fun j => Φ (.ring c j))
        ∗ (Φ .dy ∗ bigSep Finset.univ fun r => Φ (.w r))
        ∗ (bigSep Finset.univ fun c => Φ (.xs c)) ∗ bigSep Finset.univ fun c => bigSep Finset.univ fun j => Φ (.sn c j)) := by
  rw [bigSep_univ_equiv Tk.equiv, bigSep_univ_sum, bigSep_univ_sum, bigSep_univ_sum, bigSep_univ_sum, bigSep_univ_sum, bigSep_univ_sum, bigSep_univ_prod, bigSep_univ_prod,
    bigSep_univ_of_subsingleton ()]
  rfl
theorem ok_all (Φ : OK → sProp M) : bigSep Finset.univ Φ
    = iprop((Φ .dy ∗ Φ .w) ∗ ((bigSep Finset.univ fun c => Φ (.xs c)) ∗ bigSep Finset.univ fun c => Φ (.xr c))
        ∗ (bigSep Finset.univ fun c => bigSep Finset.univ fun j => Φ (.sn c j)) ∗ bigSep Finset.univ fun c => bigSep Finset.univ fun j => Φ (.rc c j)) := by
  rw [bigSep_univ_equiv okEquiv, bigSep_univ_sum, bigSep_univ_sum, bigSep_univ_sum, bigSep_univ_sum, bigSep_univ_sum, bigSep_univ_prod, bigSep_univ_prod,
    bigSep_univ_of_subsingleton (), bigSep_univ_of_subsingleton ()]
  rfl
theorem ck_all (Φ : CK → sProp M) : bigSep Finset.univ Φ
    = iprop(((Φ (some .dy) ∗ Φ (some .w)) ∗ ((bigSep Finset.univ fun c => Φ (some (.xs c))) ∗ bigSep Finset.univ fun c => Φ (some (.xr c)))
        ∗ (bigSep Finset.univ fun c => bigSep Finset.univ fun j => Φ (some (.sn c j))) ∗ bigSep Finset.univ fun c => bigSep Finset.univ fun j => Φ (some (.rc c j)))
      ∗ Φ none) := by
  rw [opt_all, ok_all]
theorem ex_mk {β : Type} (Φ : β → sProp M) (b : β) : Φ b ⊢ iprop(∃ b, Φ b) := by
  iintro H; iexists b; iexact H
theorem rows_all (d : Dev nD) (Φ : Fin 16 → sProp M) : bigSep Finset.univ Φ = iprop((bigSep Finset.univ fun j : Hop => Φ (rb d j)) ∗ Φ (pos d)) := by
  rw [bigSep_univ_equiv (rowEquiv d), opt_all]; rfl

end Families

variable {F : FTy → Type} [FloatOps F]

local notation "𝕄" => MT nD τ sig Unit (Elt F) ℕ UU ℕ

variable (m : (ℓ : Loc nD τ sig) → Buf (Elt F) ℓ) (K : Dev nD × CK → ℕ)

/-! ## The buffers in blocks -/

omit [FloatOps F] in
theorem g_split (d : Dev nD) (f : Buf (Elt F) ((d : Thread nD τ).loc cc0_scratch4)) :
    (((d : Thread nD τ).loc cc0_scratch4) ↦{fullShare} f)
      ⊢ (bigSep Finset.univ fun c : Fin 4 => iprop((bigSep Finset.univ fun j : Hop => iprop(∃ f, gP d c (rb d j) fullShare f)) ∗ ∃ f, gP d c (pos d) fullShare f) : sProp 𝕄) := by
  rw [pointsTo_blocks bset bset_disj bset_cover f, bigSep_univ_prod]
  refine bigSep_mono fun c _ => ?_
  rw [rows_all d]
  exact Idealize.SL.BI.sep_mono (bigSep_mono fun j _ => ex_mk (fun f => gP d c (rb d j) fullShare f) f) (ex_mk (fun f => gP d c (pos d) fullShare f) f)
omit [FloatOps F] in
theorem o_split (d : Dev nD) (f : Buf (Elt F) ((d : Thread nD τ).loc cc0_stg0_0)) :
    (((d : Thread nD τ).loc cc0_stg0_0) ↦{fullShare} f)
      ⊢ (bigSep Finset.univ fun c : Fin 4 => iprop((bigSep Finset.univ fun j : Hop => iprop(∃ f, oP d c (rb d j) f)) ∗ ∃ f, oP d c (pos d) f) : sProp 𝕄) := by
  rw [pointsTo_blocks bset bset_disj bset_cover f, bigSep_univ_prod]
  refine bigSep_mono fun c _ => ?_
  rw [rows_all d]
  exact Idealize.SL.BI.sep_mono (bigSep_mono fun j _ => ex_mk (fun f => oP d c (rb d j) f) f) (ex_mk (fun f => oP d c (pos d) f) f)
omit [FloatOps F] in
theorem p_split (d : Dev nD) (f : Buf (Elt F) ((d : Thread nD τ).loc cc0_scratch2)) :
    (((d : Thread nD τ).loc cc0_scratch2) ↦{fullShare} f) ⊢ (bigSep Finset.univ fun c : Fin 4 => iprop(∃ f, pP d c fullShare f) : sProp 𝕄) := by
  rw [pointsTo_blocks pset pset_disj pset_cover f]
  exact bigSep_mono fun c _ => ex_mk (fun f => pP d c fullShare f) f
omit [FloatOps F] in
theorem x_split (d : Dev nD) (f : Buf (Elt F) ((d : Thread nD τ).loc cc0_scratch3)) :
    (((d : Thread nD τ).loc cc0_scratch3) ↦{fullShare} f) ⊢ (bigSep Finset.univ fun c : Fin 4 => iprop(∃ f, xP d c f) : sProp 𝕄) := by
  rw [pointsTo_blocks pset pset_disj pset_cover f]
  exact bigSep_mono fun c _ => ex_mk (fun f => xP d c f) f

omit [FloatOps F] in
theorem g_join (d : Dev nD) (f : Buf (Elt F) ((d : Thread nD τ).loc cc0_scratch4)) :
    (bigSep Finset.univ fun c : Fin 4 => bigSep Finset.univ fun o : Option Hop => gP d c (rowOf d o) fullShare f : sProp 𝕄) = (((d : Thread nD τ).loc cc0_scratch4) ↦{fullShare} f) := by
  rw [pointsTo_blocks bset bset_disj bset_cover f, bigSep_univ_prod]
  exact bigSep_congr fun c _ => by rw [bigSep_univ_equiv (rowEquiv d)]; rfl
omit [FloatOps F] in
theorem o_join (d : Dev nD) (f : Buf (Elt F) ((d : Thread nD τ).loc cc0_stg0_0)) :
    iprop((bigSep Finset.univ fun c : Fin 4 => bigSep Finset.univ fun j : Hop => oP d c (rb d j) f) ∗ bigSep Finset.univ fun c : Fin 4 => oP d c (pos d) f)
      = (((d : Thread nD τ).loc cc0_stg0_0) ↦{fullShare} f : sProp 𝕄) := by
  rw [pointsTo_blocks bset bset_disj bset_cover f, bigSep_univ_prod, ← bigSep_sep']
  exact bigSep_congr fun c _ => by rw [rows_all d]; rfl
theorem p_join (d : Dev nD) (f : Buf (Elt F) ((d : Thread nD τ).loc cc0_scratch2)) :
    iprop((bigSep Finset.univ fun c : Fin 4 => pP d c fullShare.left f) ∗ bigSep Finset.univ fun c : Fin 4 => pP d c fullShare.right f)
      ⊢ (((d : Thread nD τ).loc cc0_scratch2) ↦{fullShare} f : sProp 𝕄) := by
  rw [pointsTo_blocks pset pset_disj pset_cover f, ← bigSep_sep']
  exact bigSep_mono fun c _ => (pP_halves d c f).2
omit [FloatOps F] in
theorem x_join (d : Dev nD) (f : Buf (Elt F) ((d : Thread nD τ).loc cc0_scratch3)) :
    (bigSep Finset.univ fun c : Fin 4 => xP d c f : sProp 𝕄) = (((d : Thread nD τ).loc cc0_scratch3) ↦{fullShare} f) := by
  rw [pointsTo_blocks pset pset_disj pset_cover f]; rfl

/-! ## The inputs -/

abbrev wset (c : Fin 4) : Finset S2048x8192.Idx := (wS c).view.set

theorem mem_wset (c : Fin 4) (i : S2048x8192.Idx) : i ∈ wset c ↔ (i 0).val / 512 = c.val := by
  unfold wset
  rw [show (wS c).view.set = (Rect.unit (s := S2048x8192) ![512 * c.val, 0] S512x8192.size (inbW c)).set from View.set_slice_whole _ _, Rect.mem_set_unit]
  constructor
  · intro h
    have h0 := h 0
    change 512 * c.val ≤ _ ∧ _ < 512 * c.val + 512 at h0
    omega
  · intro h x
    have h1 : (i 1).val < 8192 := (i 1).isLt
    match x with
    | 0 => change 512 * c.val ≤ _ ∧ _ < 512 * c.val + 512; omega
    | 1 => change 0 ≤ _ ∧ _ < 0 + 8192; omega
    | ⟨_ + 2, h⟩ => exact absurd h (by show ¬ (_ < 2); omega)
theorem wset_disj (a b : Fin 4) (h : a ≠ b) : Disjoint (wset a) (wset b) := by
  refine Finset.disjoint_left.mpr fun i ha hb => h ?_
  rw [mem_wset] at ha hb
  exact Fin.ext (ha.symm.trans hb)
theorem wset_cover : (Finset.univ : Finset (Fin 4)).biUnion wset = Finset.univ := by
  refine Finset.eq_univ_iff_forall.mpr fun i => Finset.mem_biUnion.mpr ?_
  have h0 : (i 0).val < 2048 := (i 0).isLt
  exact ⟨⟨(i 0).val / 512, by omega⟩, Finset.mem_univ _, (mem_wset _ _).mpr rfl⟩

/-- The halves of the inputs that the copies do not read from. -/
def kept' (d : Dev nD) : sProp 𝕄 :=
  iprop((((d : Thread nD τ).loc main_arg0) ↦{fullShare.right} m ((d : Thread nD τ).loc main_arg0)) ∗ (((d : Thread nD τ).loc main_arg1) ↦{fullShare.right} m ((d : Thread nD τ).loc main_arg1)))

theorem args_split (d : Dev nD) :
    iprop((((d : Thread nD τ).loc main_arg0) ↦{fullShare} m ((d : Thread nD τ).loc main_arg0)) ∗ (((d : Thread nD τ).loc main_arg1) ↦{fullShare} m ((d : Thread nD τ).loc main_arg1)))
      ⊢ (iprop((dySrc m d ∗ bigSep Finset.univ (wSrc m d)) ∗ kept' m d) : sProp 𝕄) := by
  have hw : (((d : Thread nD τ).loc main_arg1) ↦{fullShare.left} m ((d : Thread nD τ).loc main_arg1) : sProp 𝕄) = bigSep Finset.univ (wSrc m d) := by
    rw [pointsTo_blocks wset wset_disj wset_cover]; rfl
  unfold kept'
  iintro ⟨H0, H1⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  ihave H0l := (pointsTo_split_subset (Finset.subset_univ (dyS d).view.set)).1 $$ H0l
  icases H0l with ⟨H0l, -⟩
  isplitl [H0l H1l]
  · isplitl [H0l]; · unfold dySrc; iexact H0l
    iapply (Entails.of_eq hw); iexact H1l
  isplitl [H0r] <;> iassumption

/-! ## In -/

/-- The credits for what others pay. -/
def creds (d : Dev nD) : sProp 𝕄 :=
  iprop(cred (tallyAt (kcell (d, none)) () 3) ∗ (bigSep Finset.univ fun c => cred (tallyAt (kcell (d, some (.xr c))) () (amt (some (.xr c)))))
    ∗ bigSep Finset.univ fun c => bigSep Finset.univ fun j => cred (tallyAt (kcell (d, some (.rc c j))) () (amt (some (.rc c j)))))
/-- The kernel's buffers, at any contents. -/
def bufs (d : Dev nD) : sProp 𝕄 :=
  iprop((∃ f, ((d : Thread nD τ).loc cc0_scratch0) ↦{fullShare} f) ∗ (∃ f, ((d : Thread nD τ).loc cc0_scratch1) ↦{fullShare} f)
    ∗ (∃ f, ((d : Thread nD τ).loc cc0_scratch2) ↦{fullShare} f) ∗ (∃ f, ((d : Thread nD τ).loc cc0_scratch3) ↦{fullShare} f)
    ∗ (∃ f, ((d : Thread nD τ).loc cc0_scratch4) ↦{fullShare} f))
/-- The positions at the start and the tokens of what a device pays. -/
def lin (d : Dev nD) : sProp 𝕄 :=
  iprop((bigSep Finset.univ fun k : CK => atPos ER (kcell (d, k)) 0 ∅ 0) ∗ bigSep Finset.univ fun t : Tk => tok (t.dev d) t)

theorem body_deal (d : Dev nD) :
    iprop(lin d ∗ creds d ∗ bufs d ∗ (∃ f, ((d : Thread nD τ).loc cc0_stg0_0) ↦{fullShare} f) ∗ dySrc m d ∗ bigSep Finset.univ (wSrc m d)) ⊢ bodyIn m d := by
  unfold lin creds bufs
  rw [tk_all, ck_all, three_sep, four_sep (fun r => tok (Tk.dev d (.w r)) (.w r)), four_sep (wSrc m d)]
  iintro ⟨⟨⟨⟨⟨Hady, Haw⟩, ⟨Haxs, Haxr⟩, Hasn, Harc⟩, Hab⟩, ⟨⟨Ht0, Ht1, Ht2⟩, Htx, Htr⟩, ⟨Htd, Htw0, Htw1, Htw2, Htw3⟩, Htxs, Htsn⟩,
    ⟨Hcb, Hcx, Hcr⟩, ⟨Hd, Hw, ⟨%f2, H2⟩, ⟨%f3, H3⟩, ⟨%f4, H4⟩⟩, ⟨%fo, Hout⟩, Hds, Hw0, Hw1, Hw2, Hw3⟩
  ihave Hp := (p_split d f2) $$ H2
  ihave Hx := (x_split d f3) $$ H3
  ihave Hg := ((g_split d f4).trans (Entails.of_eq (bigSep_sep' _ _ _))) $$ H4
  icases Hg with ⟨Hg, Hgp⟩
  ihave Hout := ((o_split d fo).trans (Entails.of_eq (bigSep_sep' _ _ _))) $$ Hout
  icases Hout with ⟨Hout, Houtp⟩
  unfold bodyIn proIn getIn
  isplitl [Hcb Hab Hady Htd Htw0 Ht0 Ht1 Ht2 Hds Hw0 Hd Hw Hg Hx]
  · isplitl [Hcb Hab]
    · isplitl [Hcb] <;> iassumption
    isplitl [Hady]; · iexact Hady
    isplitl [Htd Htw0 Ht0 Ht1 Ht2]
    · isplitl [Htd]; · iexact Htd
      isplitl [Htw0]; · iexact Htw0
      isplitl [Ht0]; · iexact Ht0
      isplitl [Ht1]; · iexact Ht1
      iexact Ht2
    isplitl [Hds Hw0 Hd Hw]
    · isplitl [Hds]; · iexact Hds
      isplitl [Hw0]; · iexact Hw0
      isplitl [Hd]; · iexact Hd
      iexact Hw
    isplitl [Hg] <;> iassumption
  isplitl [Hw1 Htw1 Hw2 Htw2 Hw3 Htw3]
  · isplitl [Hw1 Htw1]
    · isplitl [Hw1]; · iexact Hw1
      iexact Htw1
    isplitl [Hw2 Htw2]
    · isplitl [Hw2]; · iexact Hw2
      iexact Htw2
    isplitl [Hw3]; · iexact Hw3
    iexact Htw3
  isplitl [Haw]; · iexact Haw
  have e : (bigSep Finset.univ (cPre d) : sProp 𝕄)
      = iprop(((bigSep Finset.univ fun c : Fin 4 => iprop(∃ f, pP d c fullShare f)) ∗ (bigSep Finset.univ fun c : Fin 4 => tok d (.xs c)) ∗ bigSep Finset.univ fun c : Fin 4 => tok (xp d) (.x c))
        ∗ ((bigSep Finset.univ fun c : Fin 4 => cred (tallyAt (kcell (d, some (.xr c))) () (amt (some (.xr c))))) ∗ bigSep Finset.univ fun c : Fin 4 => atPos ER (kcell (d, some (.xr c))) 0 ∅ 0)
        ∗ ((bigSep Finset.univ fun c : Fin 4 => iprop(∃ f, gP d c (pos d) fullShare f)) ∗ bigSep Finset.univ fun c : Fin 4 => iprop(∃ f, oP d c (pos d) f))
        ∗ ((bigSep Finset.univ fun c : Fin 4 => bigSep Finset.univ fun j : Hop => tok d (.sn c j)) ∗ bigSep Finset.univ fun c : Fin 4 => bigSep Finset.univ fun j : Hop => tok (tgt d j) (.ring c j))
        ∗ ((bigSep Finset.univ fun c : Fin 4 => bigSep Finset.univ fun j : Hop => cred (tallyAt (kcell (d, some (.rc c j))) () (amt (some (.rc c j)))))
          ∗ (bigSep Finset.univ fun c : Fin 4 => bigSep Finset.univ fun j : Hop => atPos ER (kcell (d, some (.rc c j))) 0 ∅ 0)
          ∗ bigSep Finset.univ fun c : Fin 4 => bigSep Finset.univ fun j : Hop => iprop(∃ f, oP d c (rb d j) f))
        ∗ (bigSep Finset.univ fun c : Fin 4 => bigSep Finset.univ fun j : Hop => atPos ER (kcell (d, some (.sn c j))) 0 ∅ 0)
        ∗ bigSep Finset.univ fun c : Fin 4 => atPos ER (kcell (d, some (.xs c))) 0 ∅ 0) := by
    simp only [← bigSep_sep']; rfl
  iapply (Entails.of_eq e.symm)
  isplitl [Hp Htxs Htx]
  · isplitl [Hp]; · iexact Hp
    isplitl [Htxs]; · iexact Htxs
    iexact Htx
  isplitl [Hcx Haxr]
  · isplitl [Hcx]; · iexact Hcx
    iexact Haxr
  isplitl [Hgp Houtp]
  · isplitl [Hgp] <;> iassumption
  isplitl [Htsn Htr]
  · isplitl [Htsn]; · iexact Htsn
    iexact Htr
  isplitl [Hcr Harc Hout]
  · isplitl [Hcr]; · iexact Hcr
    isplitl [Harc]; · iexact Harc
    iexact Hout
  isplitl [Hasn]; · iexact Hasn
  iexact Haxs

/-! ## Out -/

theorem out_eq (d : Dev nD) : (bigSep Finset.univ (cOut m d) : sProp 𝕄)
    = iprop((((bigSep Finset.univ fun c : Fin 4 => atPos ER (kcell (d, some (.xs c))) 1 ∅ 0) ∗ bigSep Finset.univ fun c : Fin 4 => pP d c fullShare.left (pfin m d))
        ∗ (bigSep Finset.univ fun c : Fin 4 => bigSep Finset.univ fun j : Hop => atPos ER (kcell (d, some (.rc c j))) 1 ∅ 0)
        ∗ (bigSep Finset.univ fun c : Fin 4 => bigSep Finset.univ fun j : Hop => atPos ER (kcell (d, some (.sn c j))) 1 ∅ 0)
        ∗ (bigSep Finset.univ fun c : Fin 4 => bigSep Finset.univ fun o : Option Hop => gP d c (rowOf d o) fullShare (gfin m d))
        ∗ (bigSep Finset.univ fun c : Fin 4 => bigSep Finset.univ fun j : Hop => oP d c (rb d j) (ofin m d)))
      ∗ (bigSep Finset.univ fun c : Fin 4 => atPos ER (kcell (d, some (.xr c))) 1 ∅ 0)
      ∗ ((bigSep Finset.univ fun c : Fin 4 => pP d c fullShare.right (pfin m d)) ∗ (bigSep Finset.univ fun c : Fin 4 => xP d c (pfin m (xp d))))
      ∗ bigSep Finset.univ fun c : Fin 4 => oP d c (pos d) (ofin m d)) := by
  simp only [← bigSep_sep']; rfl

theorem close_all (d : Dev nD) :
    iprop(recs m K ∗ bigSep Finset.univ fun k : CK => atPos ER (kcell (d, k)) (nr k) ∅ 0) ⊢ |={Set.univ}=> (bigSep Finset.univ fun k : CK => semVal (kcell (d, k)) 0 : sProp 𝕄) := by
  refine ((sep_mono_left (BI.bigSep_of_persistent (Finset.univ : Finset CK) (recs m K))).trans ?_).trans
    (cells_close ER (Rd m) Finset.univ (fun k : CK => kcell (d, k)) (fun k => K (d, k)) (fun _ _ => Set.mem_univ _) (fun _ _ h => h) nr
      (fun k _ r hr => duties_later m (d, k) r hr))
  rw [← bigSep_sep']
  exact bigSep_mono fun k _ => sep_mono_left (inv_at m K (d, k))

theorem body_gather (d : Dev nD) :
    iprop(recs m K ∗ bodyOut m d)
      ⊢ |={Set.univ}=> iprop((bigSep Finset.univ fun k : CK => semVal (kcell (d, k)) 0) ∗ bufs d ∗ ((d : Thread nD τ).loc cc0_stg0_0) ↦{fullShare} ofin m d) := by
  unfold bodyOut
  rw [out_eq]
  iintro ⟨#HR, ⟨Hab, Hady, Haw⟩, -, ⟨Hd, Hw⟩, ⟨⟨Haxs, Hpl⟩, Harc, Hasn, Hg, Ho⟩, Haxr, ⟨Hpr, Hx⟩, Hop⟩
  ihave Hp := (p_join d (pfin m d)) $$ [Hpl Hpr]
  · isplitl [Hpl] <;> iassumption
  ihave Hx := (Entails.of_eq (x_join d (pfin m (xp d)))) $$ Hx
  ihave Hg := (Entails.of_eq (g_join d (gfin m d))) $$ Hg
  ihave Ho := (Entails.of_eq (o_join d (ofin m d))) $$ [Ho Hop]
  · isplitl [Ho] <;> iassumption
  imod (close_all m K d) $$ [Hab Hady Haw Haxs Harc Hasn Haxr] with Hs
  · isplitr; · iexact HR
    iapply (Entails.of_eq (ck_all (fun k : CK => atPos ER (kcell (d, k)) (nr k) ∅ 0)).symm)
    isplitr [Hab]
    · isplitl [Hady Haw]
      · isplitl [Hady]; · iexact Hady
        iexact Haw
      isplitl [Haxs Haxr]
      · isplitl [Haxs]; · iexact Haxs
        iexact Haxr
      isplitl [Hasn]; · iexact Hasn
      iexact Harc
    iexact Hab
  imodintro
  isplitl [Hs]; · iexact Hs
  isplitr [Ho]
  · unfold bufs
    isplitl [Hd]; · iexact Hd
    isplitl [Hw]; · iexact Hw
    isplitl [Hp]; · iexists _; iexact Hp
    isplitl [Hx]; · iexists _; iexact Hx
    iexists _; iexact Hg
  iexact Ho

end Cert.KernelIdeal.Ring

end
-- ==== Proof.Run.lean ====
/- The launch and the run of the kernel, over any float values. -/
module

public import proofs.«01_k».proof.Proof.Deal
public import proofs.«01_k».proof.Proof.Gen.KernelIdeal.Launch
public import Idealize.ShloMosaic.Lib.Pipeline.CollectiveSegs
public import Idealize.ShloMosaic.Lib.Pipeline.FrameBody
public import Idealize.ShloMosaic.Lib.Pipeline.Value

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What a device owes the others at launch. -/
def O₀ (d : Dev nD) : CellTallies nD τ sig Unit := owe d payList

/-- The invariants and the levels, at some names, and what the device's body starts from. -/
def ghost (d : Dev nD) : sProp 𝕄 := iprop((∃ K, recs m K) ∗ lin d)
def start (d : Dev nD) : sProp 𝕄 := iprop(ghost m d ∗ creds d ∗ dySrc m d ∗ bigSep Finset.univ (wSrc m d))

def Φ₀ (d : Dev nD) : sProp 𝕄 := iprop(start m d ∗ bufs d)
def Φ₁ (d : Dev nD) : sProp 𝕄 := iprop((bigSep Finset.univ fun k : CK => semVal (kcell (d, k)) 0) ∗ bufs (F := F) d)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ofin m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The result's staging buffer, at contents `X`. -/
def stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(Φ₀ m c ∗ (dats m ρ 0 c).owesAt () t0_0.castSucc ∗ (∃ d, stg c ((dats m ρ 0 c).before (0 : Fin 1) t0_0 d)))
def bodyPost (c : Dev nD) : sProp 𝕄 :=
  iprop(Φ₁ c ∗ (dats m ρ 0 c).owesAt () t0_0.succ ∗ stg c (ofin m c))

theorem sound_body (c : Dev nD) : bodyPre m ρ c ⊢ W c (body (F := F)) fun _ => bodyPost m ρ c := by
  unfold bodyPre bodyPost Φ₀ start ghost stg Dat.owesAt Pipeline.owesWithin
  iintro ⟨⟨⟨⟨⟨%K, #HR⟩, Hlin⟩, Hcr, Hds, Hws⟩, Hb⟩, ⟨%Ws, %hW, Ho⟩, ⟨%d, %f, %hf, Hout⟩⟩
  iapply (wp_fupd frame (wpE (defs₀ (F := F)) 𝒱₀ (c : Thread nD τ) none) Set.univ)
  iapply (wp_wand frame (wpE (defs₀ (F := F)) 𝒱₀ (c : Thread nD τ) none) Set.univ) $$ [Hlin Hcr Hds Hws Hb Ho Hout]
  · iapply (W_body m K c)
    isplitr; · iexact HR
    isplitr [Ho]
    · iapply (body_deal m c)
      isplitl [Hlin]; · iexact Hlin
      isplitl [Hcr]; · iexact Hcr
      isplitl [Hb]; · iexact Hb
      isplitl [Hout]; · iexists f; iexact Hout
      isplitl [Hds] <;> iassumption
    unfold owesS; iexists Ws; iexact Ho
  iintro %_ ⟨Hout, Ho⟩
  imod (body_gather m K c) $$ [Hout] with ⟨Hs, Hb, Hout⟩
  · isplitr; · iexact HR
    iexact Hout
  imodintro
  isplitl [Hs Hb]
  · unfold Φ₁
    isplitl [Hs] <;> iassumption
  isplitl [Ho]
  · unfold owesS
    icases Ho with ⟨%Ws', Ho⟩
    iexists Ws'
    isplitr; · ipureintro; exact fun _ _ => Or.inl trivial
    iexact Ho
  iexists (ofin m c)
  isplitr; · (ipureintro; rfl)
  iexact Hout

/-- The body table's row is the body as `Proof.Prog` tells it. -/
theorem defs₀_row : defs₀ (F := F) .tc cfg0.body (cfg0.bodyArgs t0_0 (cfg0.slots t0_0)) = body := by
  have h : defs₀ (F := F) .tc cfg0.body (cfg0.bodyArgs t0_0 (cfg0.slots t0_0)) = bodyAt0 t0_0 := by
    unfold defs₀; rw [Defs.onTc_tc]
  exact h.trans cc0_body_eq

/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  rw [defs₀_row]
  exact triple_restated (sound_body m ρ c) rfl .rfl fun _ => .rfl

/-! ## The launch -/

theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_inj⟩

abbrev tokOf (a : Dev nD × Tk) : GSem nD τ sig × ℕ × Fin 3 := (kcell (a.1, a.2.cell), a.2.round, a.2.duty)
theorem tk_inj : ∀ t t' : Tk, t.cell = t'.cell → t.round = t'.round → t.duty = t'.duty → t = t' := by decide +kernel
theorem tokOf_inj : Function.Injective tokOf := by
  rintro ⟨d, t⟩ ⟨d', t'⟩ h
  have h1 : (d, t.cell) = (d', t'.cell) := kcell_inj (congrArg (fun x : GSem nD τ sig × ℕ × Fin 3 => x.1) h)
  have h2 : t.round = t'.round := congrArg (fun x : GSem nD τ sig × ℕ × Fin 3 => x.2.1) h
  have h3 : t.duty = t'.duty := congrArg (fun x : GSem nD τ sig × ℕ × Fin 3 => x.2.2) h
  exact Prod.ext (congrArg (fun x : Dev nD × CK => x.1) h1) (tk_inj t t' (congrArg (fun x : Dev nD × CK => x.2) h1) h2 h3)
def ringToks : Finset (GSem nD τ sig × ℕ × Fin 3) := Finset.univ.map ⟨tokOf, tokOf_inj⟩

def u₀ : UU := (initOf (Pipeline.cells cfgs cellOf_inj) (Pipeline.launchToks cfgs cellOf_inj), initOf ringCells ringToks)

/-- What the launch deals a device: its semaphores' round 0 and the tokens of their duties. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ bigSep Finset.univ fun t : Tk => tok c t)

/-- The records, before the levels are known. -/
def recs0 (K : Dev nD × CK → ℕ) : sProp 𝕄 :=
  iprop((bigSep Finset.univ fun a : Dev nD × CK => cellInv ER (Rd m) (K a) (kcell a)) ∗ bigSep Finset.univ fun a : Dev nD × CK => reached ER (kcell a) 0)
instance recs0_persistent (K) : BI.Persistent (recs0 m K) := by unfold recs0; infer_instance

def G' (c : Dev nD) : sProp 𝕄 := iprop((∃ K, recs0 m K) ∗ lin c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun t : Tk => tok c t := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier's semaphore is the one that outlives the kernel. -/
theorem unscopedSems0_eq (c : Dev nD) : (unscopedSems0 c : sProp 𝕄) = semVal (kcell (c, none)) 0 := by
  unfold unscopedSems0; rw [bigSep_eq_bigSepL_of_eq [SemLoc.reg barS] (by decide +kernel) (by decide)]; rfl
omit [FloatOps F] in
theorem sems0_eq (c : Dev nD) :
    (bigSep Finset.univ fun k : CK => semVal (kcell (c, k)) 0 : sProp 𝕄)
      = iprop(Pipeline.ownSems0 (Ix := Unit) (Name := ℕ) (U := UU) (Lvl := ℕ) (Val := Elt F) (τ := τ) osem c ∗ unscopedSems0 c) := by
  rw [unscopedSems0_eq, opt_all]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ bigSep Finset.univ fun t : Tk => tok c t) := by
  have alloc : iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (Entails.of_eq (sems0_eq (F := F) c).symm) $$ [Hos Hus]
  · isplitl [Hos] <;> iassumption
  imod alloc $$ [Hv Hst] with Hinv
  · isplitl [Hv] <;> iassumption
  imodintro
  isplitl [Hinv]; · iexact Hinv
  isplitl [Hat]; · iexact Hat
  iexact Htok

omit [FloatOps F] in
/-- The tokens from the device whose semaphore is paid to the device that pays. -/
theorem toks_around : (bigSep Finset.univ fun c : Dev nD => bigSep Finset.univ fun t : Tk => tok c t : sProp 𝕄)
    = bigSep Finset.univ fun c : Dev nD => bigSep Finset.univ fun t : Tk => tok (t.dev c) t := by
  rw [Pipeline.bigSep_univ_comm, Pipeline.bigSep_univ_comm (fun c t => tok (Tk.dev c t) t)]
  exact bigSep_congr fun t _ => bigSep_univ_equiv (⟨fun c => t.dev c, fun c => t.inv c, fun c => t.inv_dev c, fun c => t.dev_inv c⟩ : Dev nD ≃ Dev nD) fun c => tok c t

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ bigSep Finset.univ fun t : Tk => tok c t) : sProp 𝕄)
      ⊢ bigSep Finset.univ (G' m) := by
  rw [bigSep_sep', bigSep_sep', ← bigSep_univ_prod (fun a : Dev nD × CK => iprop(∃ κ : ℕ, cellInv ER (Rd m) κ (kcell a))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun a : Dev nD × CK => (reached ER (kcell a) 0 : sProp 𝕄)), toks_around]
  iintro ⟨HI, ⟨Hat, #HR⟩, Htok⟩
  ihave HK := (BI.bigSep_exists_pi Finset.univ (fun (a : Dev nD × CK) (κ : ℕ) => (cellInv ER (Rd m) κ (kcell a) : sProp 𝕄))) $$ HI
  icases HK with ⟨%K, #HI⟩
  iapply (with_persistent (R := recs0 m K) (Φ := lin) fun c _ => show iprop(recs0 m K ∗ lin c) ⊢ G' m c from by
    unfold G'
    iintro ⟨H, Hl⟩
    isplitl [H]; · iexists K; iexact H
    iexact Hl)
  isplitr
  · unfold recs0; isplitl; · iexact HI
    iexact HR
  · iapply (show iprop((bigSep Finset.univ fun c : Dev nD => bigSep Finset.univ fun k : CK => atPos ER (kcell (c, k)) 0 ∅ 0)
        ∗ bigSep Finset.univ fun c : Dev nD => bigSep Finset.univ fun t : Tk => tok (t.dev c) t) ⊢ (bigSep Finset.univ lin : sProp 𝕄) from
      Entails.of_eq (bigSep_sep' _ _ _).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem cred_list (c : Dev nD) : ∀ l : List Tk, (Pipeline.launchCred (fun d => owe d l) c : sProp 𝕄) ⊢ bigSepL l fun t => cred (tallyAt (kcell (c, t.cell)) () (amt t.cell))
  | [] => by
    rw [show (fun d => owe d []) = fun _ : Dev nD => (0 : CellTallies nD τ sig Unit) from rfl, Pipeline.launchCred_zero]; exact BI.Entails.refl _
  | t :: l => by
    rw [bigSepL_cons', show (fun d => owe d (t :: l)) = fun d => owe d l + tallyAt (kcell (t.dev d, t.cell)) () (amt t.cell) from rfl, Pipeline.launchCred_add]
    iintro ⟨Hl, Ht⟩
    isplitl [Ht]
    · iapply (Pipeline.launchCred_tallyAt (csem t.cell) (fun d => t.dev d) (fun d => t.inv d) t.dev_inv t.inv_dev () (amt t.cell) c); iexact Ht
    iapply (cred_list c l); iexact Hl

/-- The payments to other devices. -/
def paid : Fin 3 ⊕ (Fin 4 ⊕ Fin 4 × Hop) → Tk := fun a => Tk.equiv (.inl a)
theorem paid_inj : Function.Injective paid := fun a b h => Sum.inl.inj (Tk.equiv.injective h)

theorem creds_of (c : Dev nD) : (Pipeline.launchCred O₀ c : sProp 𝕄) ⊢ creds c := by
  have e : (bigSepL payList fun t => cred (tallyAt (kcell (c, t.cell)) () (amt t.cell)) : sProp 𝕄)
      = iprop((bigSep Finset.univ fun δ : Fin 3 => cred (tallyAt (kcell (c, none)) () 1)) ∗ (bigSep Finset.univ fun i => cred (tallyAt (kcell (c, some (.xr i))) () (amt (some (.xr i)))))
          ∗ bigSep Finset.univ fun i => bigSep Finset.univ fun j => cred (tallyAt (kcell (c, some (.rc i j))) () (amt (some (.rc i j))))) := by
    rw [← bigSep_eq_bigSepL_of_eq (S := Finset.univ.map ⟨paid, paid_inj⟩) payList (by decide +kernel) (by decide +kernel), bigSep_map, bigSep_univ_sum, bigSep_univ_sum, bigSep_univ_prod]
    rfl
  refine (cred_list c payList).trans ?_
  rw [e]
  rw [three_sep (F := F) fun _ => cred (tallyAt (kcell (c, none)) () 1)]
  unfold creds
  iintro ⟨⟨H0, H1, H2⟩, Hx, Hr⟩
  isplitl [H0 H1 H2]
  · rw [show (tallyAt (kcell (c, none)) () 3 : CellTallies nD τ sig Unit) = tallyAt (kcell (c, none)) () 1 + (tallyAt (kcell (c, none)) () 1 + tallyAt (kcell (c, none)) () 1) from by
      rw [tallyAt_add, tallyAt_add]]
    iapply (cred_add _ _).2
    isplitl [H0]; · iexact H0
    iapply (cred_add _ _).2
    isplitl [H1] <;> iassumption
  isplitl [Hx] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept' m c) := by
  rw [Pipeline.unscopedRestP_none, unscopedRest0_eq]
  unfold start ghost G'
  iintro ⟨Hargs, Hlev, Hcr, -, ⟨⟨%K, Hr⟩, Hl⟩⟩
  ihave Hc := (creds_of (F := F) c) $$ Hcr
  ihave Ha := (args_split m c) $$ Hargs
  icases Ha with ⟨Ha, Hk⟩
  imodintro
  isplitr [Hk]
  · isplitl [Hlev Hr Hl]
    · isplitl [Hlev Hr]
      · iexists K
        unfold recs0 recs
        icases Hr with ⟨H1, H2⟩
        isplitl [H1]; · iexact H1
        isplitl [H2] <;> iassumption
      iexact Hl
    isplitl [Hc] <;> iassumption
  iexact Hk

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufs
  rw [sems0_eq]
  iintro ⟨⟨Ho, Hu⟩, Hb⟩
  isplitl [Hu]; · iexact Hu
  isplitl [Ho] <;> iassumption

theorem stage_not : ∀ (k : CK) (w : Fin 1) (s : Fin (cfg0.win w).nbuf), csem k ≠ .dma ((cfg0.win w).sem s) := by decide +kernel

theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma ((cfg0.win w).sem s)) () = 0 := by
      have : decK (.dma ((cfg0.win w).sem s)) = none := by
        unfold decK Function.partialInv
        rw [dif_neg]
        rintro ⟨k, hk⟩
        exact stage_not k w s hk
      dsimp only [lv]; rw [this]
    rcases t with ⟨_ | _, ht⟩
    · exact mayWait_sem c _ 0 hl payList (by decide +kernel)
    · exact mayWait_sem c _ 0 hl [] (by decide)

/-! ### The run -/

theorem emb_blk (t : Fin cfg0.N) (i : S2048x2048.Idx) : ((cfg0.win 0).blk t).view.emb i = i := by
  obtain rfl := fin_N0 t
  funext x
  match x with
  | 0 => exact Fin.ext (by show 0 + 1 * (i 0).val = (i 0).val; omega)
  | 1 => exact Fin.ext (by show 0 + 1 * (i 1).val = (i 1).val; omega)

/-- The result array of a device ends at what its body computed: the one block is the whole array. -/
theorem result_eq (c : Dev nD) : (dats m ρ 0 c).arrAt (0 : Fin 1) cfg0.N = ofin m c :=
  (dats m ρ 0 c).arrAt_eq_of_cover 0 (ofin m c)
    (fun t _ => by
      funext i
      show ofin m c _ = ofin m c (((cfg0.win 0).blk t).view.emb i)
      rw [emb_blk])
    (fun i => ⟨t0_0, flush0_0 _, Finset.mem_map.mpr ⟨i, Finset.mem_univ _, emb_blk _ i⟩⟩)

/-- The inputs as they were, the result as the pipeline leaves it, at every device. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg0) = m ((c : Thread nD τ).loc main_arg0)
    ∧ r.2.mem ((c : Thread nD τ).loc main_arg1) = m ((c : Thread nD τ).loc main_arg1)

theorem args_read (c : Dev nD) (s' : Phys nD τ sig (Elt F)) : iprop(kept' m c ∗ SI s')
    ⊢ (iprop(⌜s'.mem.mem ((c : Thread nD τ).loc main_arg0) = m ((c : Thread nD τ).loc main_arg0)
        ∧ s'.mem.mem ((c : Thread nD τ).loc main_arg1) = m ((c : Thread nD τ).loc main_arg1)⌝ ∗ SI s') : sProp 𝕄) := by
  unfold kept'
  iintro ⟨⟨H0, H1⟩, HS⟩
  icombine HS H0 gives %h0
  icombine HS H1 gives %h1
  isplitr
  · ipureintro; exact ⟨Buf.eq_of_forall_mem_univ h0, Buf.eq_of_forall_mem_univ h1⟩
  iexact HS

set_option maxHeartbeats 1000000 in
/-- From any memory with zero counters every weakly fair execution of the 32 devices ends, with each device's inputs
    unchanged, its result as computed, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := kept' m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0) ∧ s.mem ((c : Thread nD τ).loc main_arg1) = m ((c : Thread nD τ).loc main_arg1))
    (hY := fun c s' => by
      iintro ⟨Hu, Hk, HSI⟩
      ihave H := (args_read m c s') $$ [Hk HSI]
      · isplitl [Hk] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, ha⟩
      iexact HSI)
    (hQ := fun _ h hs => ⟨fun c => ⟨(h c).1, (h c).2.2.2⟩, sem_eq_zero hs fun c => (h c).2.2.1⟩)

end Cert.KernelIdeal.Ring

end
-- ==== Proof.Value.lean ====
/- The values over the extended reals: every block of the result is the rows of `dy` times the rows of `W`, the two
   halves of the contracted dimension added. -/
module

public import proofs.«01_k».proof.Proof.Run
public import proofs.«01_k».proof.Proof.Gen.ReferenceIdeal.Run
public import Idealize.ShloMosaic.Lib.ValueIdx
public import Idealize.ShloMosaic.Lib.Pointwise
public import Idealize.ShloMosaic.Lib.Layout
public import Idealize.ShloMosaic.PureOps.Ideal

@[expose] public section

set_option maxRecDepth 16384

noncomputable section

namespace Cert.KernelIdeal.Ring

open Cert.KernelIdeal Cert.KernelIdeal.Gen
open Idealize.ShloMosaic Idealize.ShloMosaic.TcCoe

theorem pos_xp : ∀ d, pos (xp d) = pos d := by decide +kernel
theorem xp_half : ∀ d : Dev nD, (xp d).val / 16 = 1 - d.val / 16 := by decide +kernel
theorem half_at (d : Dev nD) (o : Fin 16) : (at' d o).val / 16 = d.val / 16 := by revert o d; decide +kernel

/-! ## The kernel's operations at an element -/

theorem prod_apply (A : Vec Ideal S128x8192 .f32) (B : Vec Ideal S512x8192 .f32) (a : Fin 128) (b : Fin 512) :
    k0_pay1 A B (ix3 0 a b) = ∑ k : Fin 8192, A (ix2 a k) * B (ix2 b k) := by
  unfold k0_pay1
  pointwise

theorem sum_apply (A B : Vec Ideal S1x128x512 .bf16) (a : Fin 128) (b : Fin 512) :
    k0_pay3 A B (ix2 a b) = A (ix3 0 a b) + B (ix3 0 a b) := by
  unfold k0_pay3
  pointwise

/-- What goes around the rings is the sum itself. -/
theorem gat_eq (A B : Vec Ideal S1x128x512 .bf16) : extf .f32 (k0_pay4 A B) bitsLt_bf16_f32 = k0_pay3 A B := by
  unfold k0_pay4; dsimp only; rw [shapeCast_id]; rfl

variable (m : (ℓ : Loc nD τ sig) → Buf (Elt Ideal) ℓ)

/-- A device's halves of `dy` and of `W`. -/
abbrev dyH (d : Dev nD) : Vec Ideal S2048x8192 .f32 := m ((d : Thread nD τ).loc main_arg0)
abbrev wH (d : Dev nD) : Vec Ideal S2048x8192 .f32 := m ((d : Thread nD τ).loc main_arg1)

theorem dyv_apply (d : Dev nD) (a : Fin 128) (k : Fin 8192) (r : Fin 2048) (hr : r.val = 128 * (pos d).val + a.val) :
    dyv m d (ix2 a k) = dyH m d (ix2 r k) := by
  unfold dyv
  show dyH m d _ = _
  refine congrArg (dyH m d) (funext fun x => ?_)
  match x with
  | 0 => exact Fin.ext (by show k0_off1 d 0 + 1 * a.val = r.val; rw [off1_eq]; show 128 * _ + _ = _; omega)
  | 1 => exact Fin.ext (by show k0_off1 d 1 + 1 * k.val = k.val; rw [off1_eq]; show 0 + _ = _; omega)

theorem wv_apply (d : Dev nD) (c : Fin 4) (b : Fin 512) (k : Fin 8192) (r : Fin 2048) (hr : r.val = 512 * c.val + b.val) :
    wv m d c (ix2 b k) = wH m d (ix2 r k) := by
  unfold wv
  show wH m d _ = _
  refine congrArg (wH m d) (funext fun x => ?_)
  match x with
  | 0 => exact Fin.ext (by show 512 * c.val + 1 * b.val = r.val; omega)
  | 1 => exact Fin.ext (by show 0 + 1 * k.val = k.val; omega)

/-- A device's half of an entry of the result. -/
def half (d : Dev nD) (i j : Fin 2048) : EReal := ∑ k : Fin 8192, dyH m d (ix2 i k) * wH m d (ix2 j k)

theorem pv_apply (d : Dev nD) (c : Fin 4) (a : Fin 128) (b : Fin 512) (i j : Fin 2048) (hi : i.val = 128 * (pos d).val + a.val)
    (hj : j.val = 512 * c.val + b.val) : pv m d c (ix3 0 a b) = half m d i j := by
  unfold pv half
  rw [prod_apply]
  exact Finset.sum_congr rfl fun k _ => by rw [dyv_apply m d a k i hi, wv_apply m d c b k j hj]

theorem rd_apply (d : Dev nD) (c : Fin 4) (a : Fin 128) (b : Fin 512) (i j : Fin 2048) (hi : i.val = 128 * (pos d).val + a.val)
    (hj : j.val = 512 * c.val + b.val) : rd m d c (ix2 a b) = half m d i j + half m (xp d) i j := by
  unfold rd
  rw [sum_apply, pv_apply m d c a b i j hi hj, pv_apply m (xp d) c a b i j (by rw [pos_xp]; exact hi) hj]

/-- Own or received, a block is the sum made by the device at its place. -/
theorem ov_eq (d : Dev nD) (c : Fin 4) (o : Fin 16) : ov m d c o = rd m (at' d o) c := by
  unfold ov
  by_cases h : o = pos d
  · rw [if_pos h, h, at_pos]
  · rw [if_neg h]; exact gat_eq _ _

theorem ofin_apply (d : Dev nD) (i j : Fin 2048) (o : Fin 16) (ho : o.val = i.val / 128) :
    ofin m d (ix2 i j) = half m (at' d o) i j + half m (xp (at' d o)) i j := by
  have hi := i.isLt
  have hj := j.isLt
  unfold ofin
  rw [glue_at (ov m d) ⟨j.val / 512, by omega⟩ o (ix2 (⟨i.val % 128, by omega⟩ : Fin 128) (⟨j.val % 512, by omega⟩ : Fin 512)) (ix2 i j)
    (by show i.val = 128 * o.val + i.val % 128; omega) (by show j.val = 512 * (j.val / 512) + j.val % 512; omega), ov_eq]
  exact rd_apply m _ _ _ _ i j (by rw [pos_at]; show i.val = 128 * o.val + i.val % 128; omega) (by show j.val = 512 * (j.val / 512) + j.val % 512; omega)

/-! ## The reference's entries -/

variable (D W : Vec Ideal ⟨2, ![2048, 16384]⟩ .f32)

/-- The reference's result. -/
def refMul : Vec Ideal S2048x2048 .f32 :=
  Host.dotGeneral (F := Ideal) (φ₁ := .f32) (φ₂ := .f32) Cert.ReferenceIdeal.dot_S2048x16384_S16384x2048_S2048x2048_1_0_0_1_n_n none D
    (transpose Cert.ReferenceIdeal.S16384x2048 [1, 0] W Cert.ReferenceIdeal.Facts₀.transposes_S2048x16384_S16384x2048_1_0)

theorem ref_apply (i j : Fin 2048) : refMul D W (ix2 i j) = ∑ k : Fin 16384, D (ix2 i k) * W (ix2 j k) := by
  unfold refMul
  pointwise

/-- A half's column `k`, in the whole array. -/
def col (h : Fin 2) (k : Fin 8192) : Fin 16384 := ⟨8192 * h.val + k.val, by have := h.isLt; have := k.isLt; omega⟩

theorem sum_halves (f : Fin 16384 → EReal) : ∑ k, f k = (∑ k, f (col 0 k)) + ∑ k, f (col 1 k) := by
  refine (Fin.sum_univ_add (a := 8192) (b := 8192) f).trans (congrArg₂ (· + ·) (Finset.sum_congr rfl fun k _ => ?_) (Finset.sum_congr rfl fun k _ => ?_))
  · exact congrArg f (Fin.ext (by show k.val = 8192 * 0 + k.val; omega))
  · exact congrArg f (Fin.ext (by show 8192 + k.val = 8192 * 1 + k.val; omega))

def side (d : Dev nD) : Fin 2 := ⟨d.val / 16, by have h : d.val < 32 := d.isLt; omega⟩

theorem mesh_col : ∀ d : Dev nD, ((Layout.meshBlock [2, 4, 4] ![[], [0]] d) (0 : Fin 2)).val = 0 ∧ ((Layout.meshBlock [2, 4, 4] ![[], [0]] d) (1 : Fin 2)).val = (side d).val := by
  decide +kernel

theorem block_apply (d : Dev nD) (i : Fin 2048) (k : Fin 8192) :
    (Layout.blockN ⟨2, ![2048, 8192]⟩ ⟨2, ![2048, 16384]⟩ (Layout.meshBlock [2, 4, 4] ![[], [0]] d) D) (ix2 i k) = D (ix2 i (col (side d) k)) := by
  rw [Layout.blockN_apply]
  refine congrArg D (funext fun x => Fin.ext ?_)
  rw [Layout.TilesN.idx_val]
  match x with
  | 0 => show ((Layout.meshBlock [2, 4, 4] ![[], [0]] d) (0 : Fin 2)).val * 2048 + i.val = i.val; rw [(mesh_col d).1]; omega
  | 1 => show ((Layout.meshBlock [2, 4, 4] ![[], [0]] d) (1 : Fin 2)).val * 8192 + k.val = 8192 * (side d).val + k.val; rw [(mesh_col d).2]; omega

/-- THE VALUE: the result of every device is the reference's product. -/
theorem ofin_eq (hD : ∀ d : Dev nD, dyH m d = Layout.blockN ⟨2, ![2048, 8192]⟩ ⟨2, ![2048, 16384]⟩ (Layout.meshBlock [2, 4, 4] ![[], [0]] d) D)
    (hW : ∀ d : Dev nD, wH m d = Layout.blockN ⟨2, ![2048, 8192]⟩ ⟨2, ![2048, 16384]⟩ (Layout.meshBlock [2, 4, 4] ![[], [0]] d) W) (d : Dev nD) :
    ofin m d = refMul D W := by
  have hh (e : Dev nD) (i j : Fin 2048) : half m e i j = ∑ k, D (ix2 i (col (side e) k)) * W (ix2 j (col (side e) k)) := by
    unfold half
    exact Finset.sum_congr rfl fun k _ => by rw [hD, hW, block_apply, block_apply]
  have key (e : Dev nD) (i j : Fin 2048) : half m e i j + half m (xp e) i j = ∑ k, D (ix2 i k) * W (ix2 j k) := by
    rw [hh, hh, sum_halves]
    rcases (show side e = 0 ∧ side (xp e) = 1 ∨ side e = 1 ∧ side (xp e) = 0 from by revert e; decide +kernel) with ⟨h0, h1⟩ | ⟨h0, h1⟩
    · rw [h0, h1]
    · rw [h0, h1, add_comm]
  have entry (i j : Fin 2048) : ofin m d (ix2 i j) = refMul D W (ix2 i j) := by
    rw [ofin_apply m d i j ⟨i.val / 128, by have := i.isLt; omega⟩ rfl, key, ref_apply]
  funext x
  rw [eq_ix2 x]
  exact entry (x 0) (x 1)

end Cert.KernelIdeal.Ring

end
-- ==== Proof.lean ====
/- The claims about the kernel and its reference, from the kernel's run (`Proof.Run`), the reference's generated run
   and the equation between their results (`Proof.Value`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- What the frame claims say, of the kernel's text over any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Ring.run_main m ρ)

/-- The printed kernel and the one read over the extended reals are one text, -/
theorem body_eq : Cert.Kernel.cc0_body (F := Bits) = Cert.KernelIdeal.cc0_body := rfl
theorem rows_eq : Cert.Kernel.defs₀ (F := Bits) = Cert.KernelIdeal.defs₀ := by
  refine congrArg Defs.onTc (funext fun ℓ => funext fun a => ?_)
  match ℓ, a with
  | 0, (t, s) => rfl
  | ⟨_ + 1, h⟩, _ => exact absurd h (Nat.not_lt.2 (Nat.le_add_left _ _))
theorem defs_eq : Cert.Kernel.defs (F := Bits) = Cert.KernelIdeal.defs := congrArg (Pipeline.defs Cert.KernelIdeal.pcfgs) rows_eq

/-- so its run is that one's. -/
theorem frame_kernel : Cert.quiescent_Kernel := fun m ρ _ => by
  have h := frame_any (F := Bits) m ρ
  rw [← defs_eq] at h
  exact h

theorem frame_kernelIdeal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

theorem algebraic : Cert.algebraic_KernelIdeal_ReferenceIdeal := fun m ρ m' ρ' _ hargs =>
  ⟨Cert.KernelIdeal.Ring.refMul (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)),
    (θ_run Cert.KernelIdeal.defs _ _).mono
      (fun _ h c => ⟨((h.1 c).1 0).trans ((Cert.KernelIdeal.Ring.result_eq m ρ c).trans (Cert.KernelIdeal.Ring.ofin_eq m _ _ (fun d => (hargs d).1) (fun d => (hargs d).2) c)), (h.1 c).2⟩)
      (Cert.KernelIdeal.Ring.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
